-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v85) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S2x8320x1024 : Shape := ⟨3, ![2, 8320, 1024]⟩
abbrev S4x1024 : Shape := ⟨2, ![4, 1024]⟩
abbrev S1024 : Shape := ⟨1, ![1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S2x8192x1024 : Shape := ⟨3, ![2, 8192, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1 : Shape := ⟨2, ![1024, 1]⟩

abbrev nBuf : Space → Nat
  | .hbm => 15
  | .vmem => 16
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x4096, .f32⟩
  | .hbm, ⟨6, _⟩ => ⟨S4x4096x1024, .f32⟩
  | .hbm, ⟨7, _⟩ => ⟨S2x1024x1024, .bf16⟩
  | .hbm, ⟨8, _⟩ => ⟨S4x1024x4096, .bf16⟩
  | .hbm, ⟨9, _⟩ => ⟨S4x4096x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S2x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_mult2 (i : grid0.Coords) : BitVec 32 :=
  let c128_i32 : BitVec 32 := 128#32
  let arg1 : BitVec 32 := BitVec.ofNat 32 (i 1).val
  let c1024_i32 : BitVec 32 := 1024#32
  let v0 : BitVec 32 := Scalar.muli arg1 c1024_i32
  let v1 : BitVec 32 := Scalar.addi c128_i32 v0
  v1
def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S2x8320x1024 : Shape := ⟨3, ![2, 8320, 1024]⟩
abbrev S4x1024 : Shape := ⟨2, ![4, 1024]⟩
abbrev S1024 : Shape := ⟨1, ![1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S8320 : Shape := ⟨1, ![8320]⟩
abbrev S_ : Shape := ⟨0, ![]⟩
abbrev S1x8320x1 : Shape := ⟨3, ![1, 8320, 1]⟩
abbrev S1x1024x1024 : Shape := ⟨3, ![1, 1024, 1024]⟩
abbrev S1024x1024 : Shape := ⟨2, ![1024, 1024]⟩
abbrev S1x1024 : Shape := ⟨2, ![1, 1024]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8320x4096 : Shape := ⟨3, ![2, 8320, 4096]⟩
abbrev S1x4096x1024 : Shape := ⟨3, ![1, 4096, 1024]⟩
abbrev S4096x1024 : Shape := ⟨2, ![4096, 1024]⟩
abbrev S2x8192x1024 : Shape := ⟨3, ![2, 8192, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S1024, .f32⟩
  | .hbm, ⟨4, _⟩ => ⟨S2x1024x1024, .f32⟩
  | .hbm, ⟨5, _⟩ => ⟨S4x1024x4096, .f32⟩
  | .hbm, ⟨6, _⟩ => ⟨S4x4096x1024, .f32⟩
  | .hbm, ⟨7, _⟩ => ⟨S8320, .i32⟩
  | .hbm, ⟨8, _⟩ => ⟨S_, .i32⟩
  | .hbm, ⟨9, _⟩ => ⟨S8320, .i32⟩
  | .hbm, ⟨10, _⟩ => ⟨S8320, .i1⟩
  | .hbm, ⟨11, _⟩ => ⟨S1x8320x1, .i1⟩
  | .hbm, ⟨12, _⟩ => ⟨S1x8320x1, .f32⟩
  | .hbm, ⟨13, _⟩ => ⟨S2x8320x1024, .f32⟩
  | .hbm, ⟨14, _⟩ => ⟨S1x1024x1024, .f32⟩
  | .hbm, ⟨15, _⟩ => ⟨S1024x1024, .f32⟩
  | .hbm, ⟨16, _⟩ => ⟨S2x8320x1024, .f32⟩
  | .hbm, ⟨17, _⟩ => ⟨S2x8320x1024, .f32⟩
  | .hbm, ⟨18, _⟩ => ⟨S2x8320x1024, .f32⟩
  | .hbm, ⟨19, _⟩ => ⟨S2x8320x1024, .f32⟩
  | .hbm, ⟨20, _⟩ => ⟨S1x1024, .f32⟩
  | .hbm, ⟨21, _⟩ => ⟨S1024, .f32⟩
  | .hbm, ⟨22, _⟩ => ⟨S2x8320x1024, .f32⟩
  | .hbm, ⟨23, _⟩ => ⟨S_, .f32⟩
  | .hbm, ⟨24, _⟩ => ⟨S2x8320, .f32⟩
  | .hbm, ⟨25, _⟩ => ⟨S2x8320x1, .f32⟩
  | .hbm, ⟨26, _⟩ => ⟨S_, .f32⟩
  | .hbm, ⟨27, _⟩ => ⟨S2x8320x1, .f32⟩
  | .hbm, ⟨28, _⟩ => ⟨S2x8320x1, .f32⟩
  | .hbm, ⟨29, _⟩ => ⟨S_, .f32⟩
  | .hbm, ⟨30, _⟩ => ⟨S2x8320x1, .f32⟩
  | .hbm, ⟨31, _⟩ => ⟨S2x8320x1, .f32⟩
  | .hbm, ⟨32, _⟩ => ⟨S2x8320x1, .f32⟩
  | .hbm, ⟨33, _⟩ => ⟨S2x8320x1024, .f32⟩
  | .hbm, ⟨34, _⟩ => ⟨S2x8320x1024, .f32⟩
  | .hbm, ⟨35, _⟩ => ⟨S1x1x1024, .f32⟩
  | .hbm, ⟨36, _⟩ => ⟨S2x8320x1024, .f32⟩
  | .hbm, ⟨37, _⟩ => ⟨S2x8320x1024, .f32⟩
  | .hbm, ⟨38, _⟩ => ⟨S1x1024x4096, .f32⟩
  | .hbm, ⟨39, _⟩ => ⟨S1024x4096, .f32⟩
  | .hbm, ⟨40, _⟩ => ⟨S2x8320x4096, .f32⟩
  | .hbm, ⟨41, _⟩ => ⟨S_, .f32⟩
  | .hbm, ⟨42, _⟩ => ⟨S2x8320x4096, .f32⟩
  | .hbm, ⟨43, _⟩ => ⟨S2x8320x4096, .f32⟩
  | .hbm, ⟨44, _⟩ => ⟨S2x8320x4096, .f32⟩
  | .hbm, ⟨45, _⟩ => ⟨S1x4096x1024, .f32⟩
  | .hbm, ⟨46, _⟩ => ⟨S4096x1024, .f32⟩
  | .hbm, ⟨47, _⟩ => ⟨S2x8320x1024, .f32⟩
  | .hbm, ⟨48, _⟩ => ⟨S2x8320x1024, .f32⟩
  | .hbm, ⟨49, _⟩ => ⟨S2x8320x1024, .f32⟩
  | .hbm, ⟨50, _⟩ => ⟨S2x8320x1024, .f32⟩
  | .hbm, ⟨51, _⟩ => ⟨S2x8320x1024, .f32⟩
  | .hbm, ⟨52, _⟩ => ⟨S_, .f32⟩
  | .hbm, ⟨53, _⟩ => ⟨S2x8320, .f32⟩
  | .hbm, ⟨54, _⟩ => ⟨S2x8320x1, .f32⟩
  | .hbm, ⟨55, _⟩ => ⟨S_, .f32⟩
  | .hbm, ⟨56, _⟩ => ⟨S2x8320x1, .f32⟩
  | .hbm, ⟨57, _⟩ => ⟨S2x8320x1, .f32⟩
  | .hbm, ⟨58, _⟩ => ⟨S_, .f32⟩
  | .hbm, ⟨59, _⟩ => ⟨S2x8320x1, .f32⟩
  | .hbm, ⟨60, _⟩ => ⟨S2x8320x1, .f32⟩
  | .hbm, ⟨61, _⟩ => ⟨S2x8320x1, .f32⟩
  | .hbm, ⟨62, _⟩ => ⟨S2x8320x1024, .f32⟩
  | .hbm, ⟨63, _⟩ => ⟨S2x8320x1024, .f32⟩
  | .hbm, ⟨64, _⟩ => ⟨S1x1x1024, .f32⟩
  | .hbm, ⟨65, _⟩ => ⟨S2x8320x1024, .f32⟩
  | .hbm, ⟨66, _⟩ => ⟨S2x8320x1024, .f32⟩
  | .hbm, ⟨67, _⟩ => ⟨S2x8192x1024, .f32⟩
  | _, _ => ⟨S2x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel2.lean ====
abbrev S2x8320x1024 : Shape := ⟨3, ![2, 8320, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S1x1040x1024 : Shape := ⟨3, ![1, 1040, 1024]⟩
abbrev S1x1024x1024 : Shape := ⟨3, ![1, 1024, 1024]⟩
abbrev S1040x1024 : Shape := ⟨2, ![1040, 1024]⟩
abbrev S1040x1 : Shape := ⟨2, ![1040, 1]⟩
abbrev S1x208x1024 : Shape := ⟨3, ![1, 208, 1024]⟩
abbrev S208x1024 : Shape := ⟨2, ![208, 1024]⟩
abbrev S1024x1024 : Shape := ⟨2, ![1024, 1024]⟩
abbrev S208x1 : Shape := ⟨2, ![208, 1]⟩
abbrev S208 : Shape := ⟨1, ![208]⟩

abbrev nBuf : Space → Nat
  | .hbm => 14
  | .vmem => 16
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S2x1024x1024, .bf16⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S2x8320x1024, .f32⟩
  | .local _ .vmem, ⟨0, _⟩ => ⟨S1x1040x1024, .bf16⟩
  | .local _ .vmem, ⟨1, _⟩ => ⟨S1x1040x1024, .bf16⟩
  | .local _ .vmem, ⟨2, _⟩ => ⟨S1x1024x1024, .bf16⟩
  | .local _ .vmem, ⟨3, _⟩ => ⟨S1x1040x1024, .f32⟩
  | .local _ .vmem, ⟨4, _⟩ => ⟨S1x1040x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1x1040x1024, .f32⟩
  | .local _ .vmem, ⟨12, _⟩ => ⟨S1x1040x1024, .f32⟩
  | .local _ .vmem, ⟨13, _⟩ => ⟨S1040x1024, .bf16⟩
  | .local _ .vmem, ⟨14, _⟩ => ⟨S1040x1024, .f32⟩
  | .local _ .vmem, ⟨15, _⟩ => ⟨S1040x1024, .f32⟩
  | _, _ => ⟨S2x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1040x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S2x8320x1024 : Shape := ⟨3, ![2, 8320, 1024]⟩
abbrev S4x1024 : Shape := ⟨2, ![4, 1024]⟩
abbrev S2x1024x1024 : Shape := ⟨3, ![2, 1024, 1024]⟩
abbrev S4x1024x4096 : Shape := ⟨3, ![4, 1024, 4096]⟩
abbrev S4x4096x1024 : Shape := ⟨3, ![4, 4096, 1024]⟩
abbrev S8320 : Shape := ⟨1, ![8320]⟩
abbrev S_ : Shape := ⟨0, ![]⟩
abbrev S1x8320x1 : Shape := ⟨3, ![1, 8320, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8320x4096 : Shape := ⟨3, ![2, 8320, 4096]⟩
abbrev S1x4096x1024 : Shape := ⟨3, ![1, 4096, 1024]⟩
abbrev S4096x1024 : Shape := ⟨2, ![4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S2x1024x1024, .f32⟩
  | .hbm, ⟨4, _⟩ => ⟨S4x1024x4096, .f32⟩
  | .hbm, ⟨5, _⟩ => ⟨S4x4096x1024, .f32⟩
  | .hbm, ⟨6, _⟩ => ⟨S8320, .i32⟩
  | .hbm, ⟨7, _⟩ => ⟨S_, .i32⟩
  | .hbm, ⟨8, _⟩ => ⟨S8320, .i32⟩
  | .hbm, ⟨9, _⟩ => ⟨S8320, .i1⟩
  | .hbm, ⟨10, _⟩ => ⟨S1x8320x1, .i1⟩
  | .hbm, ⟨11, _⟩ => ⟨S1x8320x1, .f32⟩
  | .hbm, ⟨12, _⟩ => ⟨S2x8320x1024, .f32⟩
  | .hbm, ⟨13, _⟩ => ⟨S1x1024x1024, .f32⟩
  | .hbm, ⟨14, _⟩ => ⟨S1024x1024, .f32⟩
  | .hbm, ⟨15, _⟩ => ⟨S2x8320x1024, .f32⟩
  | .hbm, ⟨16, _⟩ => ⟨S2x8320x1024, .f32⟩
  | .hbm, ⟨17, _⟩ => ⟨S2x8320x1024, .f32⟩
  | .hbm, ⟨18, _⟩ => ⟨S2x8320x1024, .f32⟩
  | .hbm, ⟨19, _⟩ => ⟨S1x1024, .f32⟩
  | .hbm, ⟨20, _⟩ => ⟨S1024, .f32⟩
  | .hbm, ⟨21, _⟩ => ⟨S2x8320x1024, .f32⟩
  | .hbm, ⟨22, _⟩ => ⟨S_, .f32⟩
  | .hbm, ⟨23, _⟩ => ⟨S2x8320, .f32⟩
  | .hbm, ⟨24, _⟩ => ⟨S2x8320x1, .f32⟩
  | .hbm, ⟨25, _⟩ => ⟨S_, .f32⟩
  | .hbm, ⟨26, _⟩ => ⟨S2x8320x1, .f32⟩
  | .hbm, ⟨27, _⟩ => ⟨S2x8320x1, .f32⟩
  | .hbm, ⟨28, _⟩ => ⟨S_, .f32⟩
  | .hbm, ⟨29, _⟩ => ⟨S2x8320x1, .f32⟩
  | .hbm, ⟨30, _⟩ => ⟨S2x8320x1, .f32⟩
  | .hbm, ⟨31, _⟩ => ⟨S2x8320x1, .f32⟩
  | .hbm, ⟨32, _⟩ => ⟨S2x8320x1024, .f32⟩
  | .hbm, ⟨33, _⟩ => ⟨S2x8320x1024, .f32⟩
  | .hbm, ⟨34, _⟩ => ⟨S1x1x1024, .f32⟩
  | .hbm, ⟨35, _⟩ => ⟨S2x8320x1024, .f32⟩
  | .hbm, ⟨36, _⟩ => ⟨S2x8320x1024, .f32⟩
  | .hbm, ⟨37, _⟩ => ⟨S1x1024x4096, .f32⟩
  | .hbm, ⟨38, _⟩ => ⟨S1024x4096, .f32⟩
  | .hbm, ⟨39, _⟩ => ⟨S2x8320x4096, .f32⟩
  | .hbm, ⟨40, _⟩ => ⟨S_, .f32⟩
  | .hbm, ⟨41, _⟩ => ⟨S2x8320x4096, .f32⟩
  | .hbm, ⟨42, _⟩ => ⟨S2x8320x4096, .f32⟩
  | .hbm, ⟨43, _⟩ => ⟨S2x8320x4096, .f32⟩
  | .hbm, ⟨44, _⟩ => ⟨S1x4096x1024, .f32⟩
  | .hbm, ⟨45, _⟩ => ⟨S4096x1024, .f32⟩
  | .hbm, ⟨46, _⟩ => ⟨S2x8320x1024, .f32⟩
  | .hbm, ⟨47, _⟩ => ⟨S2x8320x1024, .f32⟩
  | .hbm, ⟨48, _⟩ => ⟨S2x8320x1024, .f32⟩
  | .hbm, ⟨49, _⟩ => ⟨S2x8320x1024, .f32⟩
  | _, _ => ⟨S2x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel3.lean ====
abbrev S2x8320x1024 : Shape := ⟨3, ![2, 8320, 1024]⟩
abbrev S4x1024 : Shape := ⟨2, ![4, 1024]⟩
abbrev S2x1024x4112 : Shape := ⟨3, ![2, 1024, 4112]⟩
abbrev S_ : Shape := ⟨0, ![]⟩
abbrev S2x1024x112 : Shape := ⟨3, ![2, 1024, 112]⟩
abbrev S2x1024x4224 : Shape := ⟨3, ![2, 1024, 4224]⟩
abbrev S1x1024 : Shape := ⟨2, ![1, 1024]⟩
abbrev S1024 : Shape := ⟨1, ![1024]⟩
abbrev S2x8320x4224 : Shape := ⟨3, ![2, 8320, 4224]⟩
abbrev S2x8320x128 : Shape := ⟨3, ![2, 8320, 128]⟩
abbrev S1x2080x1024 : Shape := ⟨3, ![1, 2080, 1024]⟩
abbrev S1x1024x1408 : Shape := ⟨3, ![1, 1024, 1408]⟩
abbrev S1x2080x1408 : Shape := ⟨3, ![1, 2080, 1408]⟩
abbrev S1x2080x128 : Shape := ⟨3, ![1, 2080, 128]⟩
abbrev S2080x1024 : Shape := ⟨2, ![2080, 1024]⟩
abbrev S2080 : Shape := ⟨1, ![2080]⟩
abbrev S2080x1 : Shape := ⟨2, ![2080, 1]⟩
abbrev S1024x1408 : Shape := ⟨2, ![1024, 1408]⟩
abbrev S2080x1408 : Shape := ⟨2, ![2080, 1408]⟩
abbrev S2080x128 : Shape := ⟨2, ![2080, 128]⟩

abbrev nBuf : Space → Nat
  | .hbm => 12
  | .vmem => 10
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S2x1024x4112, .f32⟩
  | .hbm, ⟨3, _⟩ => ⟨S_, .f32⟩
  | .hbm, ⟨4, _⟩ => ⟨S2x1024x112, .f32⟩
  | .hbm, ⟨5, _⟩ => ⟨S2x1024x4224, .f32⟩
  | .hbm, ⟨6, _⟩ => ⟨S2x1024x4224, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x8320x4224, .bf16⟩
  | .hbm, ⟨11, _⟩ => ⟨S2x8320x128, .f32⟩
  | .local _ .vmem, ⟨0, _⟩ => ⟨S1x2080x1024, .f32⟩
  | .local _ .vmem, ⟨1, _⟩ => ⟨S1x2080x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x2080x1408, .bf16⟩
  | .local _ .vmem, ⟨6, _⟩ => ⟨S1x2080x1408, .bf16⟩
  | .local _ .vmem, ⟨7, _⟩ => ⟨S1x2080x128, .f32⟩
  | .local _ .vmem, ⟨8, _⟩ => ⟨S1x2080x128, .f32⟩
  | .local _ .vmem, ⟨9, _⟩ => ⟨S2080x1024, .bf16⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2080x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2x8320x1024 : Shape := ⟨3, ![2, 8320, 1024]⟩
abbrev S4x1024 : Shape := ⟨2, ![4, 1024]⟩
abbrev S2x1024x4112 : Shape := ⟨3, ![2, 1024, 4112]⟩
abbrev S1x1024 : Shape := ⟨2, ![1, 1024]⟩
abbrev S1024 : Shape := ⟨1, ![1024]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4112 : Shape := ⟨3, ![1, 1024, 4112]⟩
abbrev S1024x4112 : Shape := ⟨2, ![1024, 4112]⟩
abbrev S2x8320x4112 : Shape := ⟨3, ![2, 8320, 4112]⟩
abbrev S2x8320x4224 : Shape := ⟨3, ![2, 8320, 4224]⟩
abbrev S2x8320x128 : Shape := ⟨3, ![2, 8320, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S2x1024x4112, .f32⟩
  | .hbm, ⟨3, _⟩ => ⟨S1x1024, .f32⟩
  | .hbm, ⟨4, _⟩ => ⟨S1024, .f32⟩
  | .hbm, ⟨5, _⟩ => ⟨S2x8320x1024, .f32⟩
  | .hbm, ⟨6, _⟩ => ⟨S_, .f32⟩
  | .hbm, ⟨7, _⟩ => ⟨S2x8320, .f32⟩
  | .hbm, ⟨8, _⟩ => ⟨S2x8320x1, .f32⟩
  | .hbm, ⟨9, _⟩ => ⟨S_, .f32⟩
  | .hbm, ⟨10, _⟩ => ⟨S2x8320x1, .f32⟩
  | .hbm, ⟨11, _⟩ => ⟨S2x8320x1, .f32⟩
  | .hbm, ⟨12, _⟩ => ⟨S_, .f32⟩
  | .hbm, ⟨13, _⟩ => ⟨S2x8320x1, .f32⟩
  | .hbm, ⟨14, _⟩ => ⟨S2x8320x1, .f32⟩
  | .hbm, ⟨15, _⟩ => ⟨S2x8320x1, .f32⟩
  | .hbm, ⟨16, _⟩ => ⟨S2x8320x1024, .f32⟩
  | .hbm, ⟨17, _⟩ => ⟨S2x8320x1024, .f32⟩
  | .hbm, ⟨18, _⟩ => ⟨S1x1x1024, .f32⟩
  | .hbm, ⟨19, _⟩ => ⟨S2x8320x1024, .f32⟩
  | .hbm, ⟨20, _⟩ => ⟨S2x8320x1024, .f32⟩
  | .hbm, ⟨21, _⟩ => ⟨S1x1024x4112, .f32⟩
  | .hbm, ⟨22, _⟩ => ⟨S1024x4112, .f32⟩
  | .hbm, ⟨23, _⟩ => ⟨S2x8320x4112, .f32⟩
  | .hbm, ⟨24, _⟩ => ⟨S_, .i32⟩
  | .hbm, ⟨25, _⟩ => ⟨S_, .f32⟩
  | .hbm, ⟨26, _⟩ => ⟨S2x8320x4224, .f32⟩
  | .hbm, ⟨27, _⟩ => ⟨S2x8320x4224, .bf16⟩
  | .hbm, ⟨28, _⟩ => ⟨S2x8320x128, .f32⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S2x8320x1024 : Shape := ⟨3, ![2, 8320, 1024]⟩
abbrev S4x1024 : Shape := ⟨2, ![4, 1024]⟩
abbrev S1x1024x3072 : Shape := ⟨3, ![1, 1024, 3072]⟩
abbrev S_ : Shape := ⟨0, ![]⟩
abbrev S1024 : Shape := ⟨1, ![1024]⟩
abbrev S2048 : Shape := ⟨1, ![2048]⟩
abbrev S3072 : Shape := ⟨1, ![3072]⟩
abbrev S1x1024 : Shape := ⟨2, ![1, 1024]⟩
abbrev S1x3072 : Shape := ⟨2, ![1, 3072]⟩
abbrev S2x8320x3072 : Shape := ⟨3, ![2, 8320, 3072]⟩
abbrev S1x2080x1024 : Shape := ⟨3, ![1, 2080, 1024]⟩
abbrev S1x1024x1024 : Shape := ⟨3, ![1, 1024, 1024]⟩
abbrev S2080x1024 : Shape := ⟨2, ![2080, 1024]⟩
abbrev S2080 : Shape := ⟨1, ![2080]⟩
abbrev S2080x1 : Shape := ⟨2, ![2080, 1]⟩
abbrev S1024x1024 : Shape := ⟨2, ![1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S1x1024x3072, .f32⟩
  | .hbm, ⟨3, _⟩ => ⟨S1x1024x3072, .bf16⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S2048, .f32⟩
  | .hbm, ⟨8, _⟩ => ⟨S3072, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x3072, .f32⟩
  | .hbm, ⟨13, _⟩ => ⟨S2x8320x3072, .bf16⟩
  | .local _ .vmem, ⟨0, _⟩ => ⟨S1x2080x1024, .f32⟩
  | .local _ .vmem, ⟨1, _⟩ => ⟨S1x2080x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x2080x1024, .bf16⟩
  | .local _ .vmem, ⟨8, _⟩ => ⟨S1x2080x1024, .bf16⟩
  | .local _ .vmem, ⟨9, _⟩ => ⟨S2080x1024, .bf16⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2080x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S2x8320x1024 : Shape := ⟨3, ![2, 8320, 1024]⟩
abbrev S4x1024 : Shape := ⟨2, ![4, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S1024x3072 : Shape := ⟨2, ![1024, 3072]⟩
abbrev S2x8320x3072 : Shape := ⟨3, ![2, 8320, 3072]⟩
abbrev S2x8320x2048 : Shape := ⟨3, ![2, 8320, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S2x8320x1024, .f32⟩
  | .hbm, ⟨6, _⟩ => ⟨S_, .f32⟩
  | .hbm, ⟨7, _⟩ => ⟨S2x8320, .f32⟩
  | .hbm, ⟨8, _⟩ => ⟨S2x8320x1, .f32⟩
  | .hbm, ⟨9, _⟩ => ⟨S_, .f32⟩
  | .hbm, ⟨10, _⟩ => ⟨S2x8320x1, .f32⟩
  | .hbm, ⟨11, _⟩ => ⟨S2x8320x1, .f32⟩
  | .hbm, ⟨12, _⟩ => ⟨S_, .f32⟩
  | .hbm, ⟨13, _⟩ => ⟨S2x8320x1, .f32⟩
  | .hbm, ⟨14, _⟩ => ⟨S2x8320x1, .f32⟩
  | .hbm, ⟨15, _⟩ => ⟨S2x8320x1, .f32⟩
  | .hbm, ⟨16, _⟩ => ⟨S2x8320x1024, .f32⟩
  | .hbm, ⟨17, _⟩ => ⟨S2x8320x1024, .f32⟩
  | .hbm, ⟨18, _⟩ => ⟨S1x1x1024, .f32⟩
  | .hbm, ⟨19, _⟩ => ⟨S2x8320x1024, .f32⟩
  | .hbm, ⟨20, _⟩ => ⟨S2x8320x1024, .f32⟩
  | .hbm, ⟨21, _⟩ => ⟨S1024x3072, .f32⟩
  | .hbm, ⟨22, _⟩ => ⟨S2x8320x3072, .f32⟩
  | .hbm, ⟨23, _⟩ => ⟨S2x8320x1024, .f32⟩
  | .hbm, ⟨24, _⟩ => ⟨S_, .f32⟩
  | .hbm, ⟨25, _⟩ => ⟨S2x8320x1024, .f32⟩
  | .hbm, ⟨26, _⟩ => ⟨S2x8320x1024, .f32⟩
  | .hbm, ⟨27, _⟩ => ⟨S2x8320x2048, .f32⟩
  | .hbm, ⟨28, _⟩ => ⟨S2x8320x3072, .f32⟩
  | .hbm, ⟨29, _⟩ => ⟨S2x8320x3072, .bf16⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S2x8320x1024 : Shape := ⟨3, ![2, 8320, 1024]⟩
abbrev S4x1024 : Shape := ⟨2, ![4, 1024]⟩
abbrev S1x1024x2048 : Shape := ⟨3, ![1, 1024, 2048]⟩
abbrev S1x1024 : Shape := ⟨2, ![1, 1024]⟩
abbrev S1024 : Shape := ⟨1, ![1024]⟩
abbrev S2x8320x2048 : Shape := ⟨3, ![2, 8320, 2048]⟩
abbrev S1x2080x1024 : Shape := ⟨3, ![1, 2080, 1024]⟩
abbrev S1x1024x1024 : Shape := ⟨3, ![1, 1024, 1024]⟩
abbrev S2080x1024 : Shape := ⟨2, ![2080, 1024]⟩
abbrev S2080 : Shape := ⟨1, ![2080]⟩
abbrev S2080x1 : Shape := ⟨2, ![2080, 1]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S1x1024x2048, .f32⟩
  | .hbm, ⟨3, _⟩ => ⟨S1x1024, .f32⟩
  | .hbm, ⟨4, _⟩ => ⟨S1024, .f32⟩
  | .hbm, ⟨5, _⟩ => ⟨S1x1024x2048, .bf16⟩
  | .hbm, ⟨6, _⟩ => ⟨S1x1024, .f32⟩
  | .hbm, ⟨7, _⟩ => ⟨S2x8320x2048, .bf16⟩
  | .local _ .vmem, ⟨0, _⟩ => ⟨S1x2080x1024, .f32⟩
  | .local _ .vmem, ⟨1, _⟩ => ⟨S1x2080x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x2080x1024, .bf16⟩
  | .local _ .vmem, ⟨6, _⟩ => ⟨S1x2080x1024, .bf16⟩
  | .local _ .vmem, ⟨7, _⟩ => ⟨S2080x1024, .bf16⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2080x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S2x8320x1024 : Shape := ⟨3, ![2, 8320, 1024]⟩
abbrev S4x1024 : Shape := ⟨2, ![4, 1024]⟩
abbrev S1x1024x2048 : Shape := ⟨3, ![1, 1024, 2048]⟩
abbrev S1x1024 : Shape := ⟨2, ![1, 1024]⟩
abbrev S1024 : Shape := ⟨1, ![1024]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S1024x2048 : Shape := ⟨2, ![1024, 2048]⟩
abbrev S2x8320x2048 : Shape := ⟨3, ![2, 8320, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S1x1024x2048, .f32⟩
  | .hbm, ⟨3, _⟩ => ⟨S1x1024, .f32⟩
  | .hbm, ⟨4, _⟩ => ⟨S1024, .f32⟩
  | .hbm, ⟨5, _⟩ => ⟨S2x8320x1024, .f32⟩
  | .hbm, ⟨6, _⟩ => ⟨S_, .f32⟩
  | .hbm, ⟨7, _⟩ => ⟨S2x8320, .f32⟩
  | .hbm, ⟨8, _⟩ => ⟨S2x8320x1, .f32⟩
  | .hbm, ⟨9, _⟩ => ⟨S_, .f32⟩
  | .hbm, ⟨10, _⟩ => ⟨S2x8320x1, .f32⟩
  | .hbm, ⟨11, _⟩ => ⟨S2x8320x1, .f32⟩
  | .hbm, ⟨12, _⟩ => ⟨S_, .f32⟩
  | .hbm, ⟨13, _⟩ => ⟨S2x8320x1, .f32⟩
  | .hbm, ⟨14, _⟩ => ⟨S2x8320x1, .f32⟩
  | .hbm, ⟨15, _⟩ => ⟨S2x8320x1, .f32⟩
  | .hbm, ⟨16, _⟩ => ⟨S2x8320x1024, .f32⟩
  | .hbm, ⟨17, _⟩ => ⟨S2x8320x1024, .f32⟩
  | .hbm, ⟨18, _⟩ => ⟨S1x1x1024, .f32⟩
  | .hbm, ⟨19, _⟩ => ⟨S2x8320x1024, .f32⟩
  | .hbm, ⟨20, _⟩ => ⟨S2x8320x1024, .f32⟩
  | .hbm, ⟨21, _⟩ => ⟨S1024x2048, .f32⟩
  | .hbm, ⟨22, _⟩ => ⟨S2x8320x2048, .f32⟩
  | .hbm, ⟨23, _⟩ => ⟨S2x8320x2048, .bf16⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S32x8 : Shape := ⟨2, ![32, 8]⟩
abbrev S8x2x128x128 : Shape := ⟨4, ![8, 2, 128, 128]⟩
abbrev S1x1x128x128 : Shape := ⟨4, ![1, 1, 128, 128]⟩
abbrev S128x128 : Shape := ⟨2, ![128, 128]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S8x2x128x128, .f32⟩
  | .local _ .vmem, ⟨0, _⟩ => ⟨S1x1x128x128, .f32⟩
  | .local _ .vmem, ⟨1, _⟩ => ⟨S1x1x128x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0 : Index := 0#32
  let arg0 : BitVec 32 := BitVec.ofNat 32 (i 0).val
  let v34 : Index := Scalar.indexCast arg0
  ![0, v34.toNat]
def k0_off2 (i : grid0.Coords) : Fin 2 → Nat :=
  let c1 : Index := 1#32
  let arg0 : BitVec 32 := BitVec.ofNat 32 (i 0).val
  let v40 : Index := Scalar.indexCast arg0
  ![1, v40.toNat]
def k0_off3 (i : grid0.Coords) : Fin 2 → Nat :=
  let c2 : Index := 2#32
  let arg0 : BitVec 32 := BitVec.ofNat 32 (i 0).val
  let v46 : Index := Scalar.indexCast arg0
  ![2, v46.toNat]
def k0_off4 (i : grid0.Coords) : Fin 2 → Nat :=
  let c3 : Index := 3#32
  let arg0 : BitVec 32 := BitVec.ofNat 32 (i 0).val
  let v52 : Index := Scalar.indexCast arg0
  ![3, v52.toNat]
def k0_off5 (i : grid0.Coords) : Fin 2 → Nat :=
  let c4 : Index := 4#32
  let arg0 : BitVec 32 := BitVec.ofNat 32 (i 0).val
  let v58 : Index := Scalar.indexCast arg0
  ![4, v58.toNat]
def k0_off6 (i : grid0.Coords) : Fin 2 → Nat :=
  let c5 : Index := 5#32
  let arg0 : BitVec 32 := BitVec.ofNat 32 (i 0).val
  let v64 : Index := Scalar.indexCast arg0
  ![5, v64.toNat]
def k0_off7 (i : grid0.Coords) : Fin 2 → Nat :=
  let c6 : Index := 6#32
  let arg0 : BitVec 32 := BitVec.ofNat 32 (i 0).val
  let v70 : Index := Scalar.indexCast arg0
  ![6, v70.toNat]
def k0_off8 (i : grid0.Coords) : Fin 2 → Nat :=
  let c7 : Index := 7#32
  let arg0 : BitVec 32 := BitVec.ofNat 32 (i 0).val
  let v76 : Index := Scalar.indexCast arg0
  ![7, v76.toNat]
def k0_off9 (i : grid0.Coords) : Fin 2 → Nat :=
  let c8 : Index := 8#32
  let arg0 : BitVec 32 := BitVec.ofNat 32 (i 0).val
  let v82 : Index := Scalar.indexCast arg0
  ![8, v82.toNat]
def k0_off10 (i : grid0.Coords) : Fin 2 → Nat :=
  let c9 : Index := 9#32
  let arg0 : BitVec 32 := BitVec.ofNat 32 (i 0).val
  let v88 : Index := Scalar.indexCast arg0
  ![9, v88.toNat]
def k0_off11 (i : grid0.Coords) : Fin 2 → Nat :=
  let c10 : Index := 10#32
  let arg0 : BitVec 32 := BitVec.ofNat 32 (i 0).val
  let v94 : Index := Scalar.indexCast arg0
  ![10, v94.toNat]
def k0_off12 (i : grid0.Coords) : Fin 2 → Nat :=
  let c11 : Index := 11#32
  let arg0 : BitVec 32 := BitVec.ofNat 32 (i 0).val
  let v100 : Index := Scalar.indexCast arg0
  ![11, v100.toNat]
def k0_off13 (i : grid0.Coords) : Fin 2 → Nat :=
  let c12 : Index := 12#32
  let arg0 : BitVec 32 := BitVec.ofNat 32 (i 0).val
  let v106 : Index := Scalar.indexCast arg0
  ![12, v106.toNat]
def k0_off14 (i : grid0.Coords) : Fin 2 → Nat :=
  let c13 : Index := 13#32
  let arg0 : BitVec 32 := BitVec.ofNat 32 (i 0).val
  let v112 : Index := Scalar.indexCast arg0
  ![13, v112.toNat]
def k0_off15 (i : grid0.Coords) : Fin 2 → Nat :=
  let c14 : Index := 14#32
  let arg0 : BitVec 32 := BitVec.ofNat 32 (i 0).val
  let v118 : Index := Scalar.indexCast arg0
  ![14, v118.toNat]
def k0_off16 (i : grid0.Coords) : Fin 2 → Nat :=
  let c15 : Index := 15#32
  let arg0 : BitVec 32 := BitVec.ofNat 32 (i 0).val
  let v124 : Index := Scalar.indexCast arg0
  ![15, v124.toNat]
def k0_off17 (i : grid0.Coords) : Fin 2 → Nat :=
  let c16 : Index := 16#32
  let arg0 : BitVec 32 := BitVec.ofNat 32 (i 0).val
  let v130 : Index := Scalar.indexCast arg0
  ![16, v130.toNat]
def k0_off18 (i : grid0.Coords) : Fin 2 → Nat :=
  let c17 : Index := 17#32
  let arg0 : BitVec 32 := BitVec.ofNat 32 (i 0).val
  let v136 : Index := Scalar.indexCast arg0
  ![17, v136.toNat]
def k0_off19 (i : grid0.Coords) : Fin 2 → Nat :=
  let c18 : Index := 18#32
  let arg0 : BitVec 32 := BitVec.ofNat 32 (i 0).val
  let v142 : Index := Scalar.indexCast arg0
  ![18, v142.toNat]
def k0_off20 (i : grid0.Coords) : Fin 2 → Nat :=
  let c19 : Index := 19#32
  let arg0 : BitVec 32 := BitVec.ofNat 32 (i 0).val
  let v148 : Index := Scalar.indexCast arg0
  ![19, v148.toNat]
def k0_off21 (i : grid0.Coords) : Fin 2 → Nat :=
  let c20 : Index := 20#32
  let arg0 : BitVec 32 := BitVec.ofNat 32 (i 0).val
  let v154 : Index := Scalar.indexCast arg0
  ![20, v154.toNat]
def k0_off22 (i : grid0.Coords) : Fin 2 → Nat :=
  let c21 : Index := 21#32
  let arg0 : BitVec 32 := BitVec.ofNat 32 (i 0).val
  let v160 : Index := Scalar.indexCast arg0
  ![21, v160.toNat]
def k0_off23 (i : grid0.Coords) : Fin 2 → Nat :=
  let c22 : Index := 22#32
  let arg0 : BitVec 32 := BitVec.ofNat 32 (i 0).val
  let v166 : Index := Scalar.indexCast arg0
  ![22, v166.toNat]
def k0_off24 (i : grid0.Coords) : Fin 2 → Nat :=
  let c23 : Index := 23#32
  let arg0 : BitVec 32 := BitVec.ofNat 32 (i 0).val
  let v172 : Index := Scalar.indexCast arg0
  ![23, v172.toNat]
def k0_off25 (i : grid0.Coords) : Fin 2 → Nat :=
  let c24 : Index := 24#32
  let arg0 : BitVec 32 := BitVec.ofNat 32 (i 0).val
  let v178 : Index := Scalar.indexCast arg0
  ![24, v178.toNat]
def k0_off26 (i : grid0.Coords) : Fin 2 → Nat :=
  let c25 : Index := 25#32
  let arg0 : BitVec 32 := BitVec.ofNat 32 (i 0).val
  let v184 : Index := Scalar.indexCast arg0
  ![25, v184.toNat]
def k0_off27 (i : grid0.Coords) : Fin 2 → Nat :=
  let c26 : Index := 26#32
  let arg0 : BitVec 32 := BitVec.ofNat 32 (i 0).val
  let v190 : Index := Scalar.indexCast arg0
  ![26, v190.toNat]
def k0_off28 (i : grid0.Coords) : Fin 2 → Nat :=
  let c27 : Index := 27#32
  let arg0 : BitVec 32 := BitVec.ofNat 32 (i 0).val
  let v196 : Index := Scalar.indexCast arg0
  ![27, v196.toNat]
def k0_off29 (i : grid0.Coords) : Fin 2 → Nat :=
  let c28 : Index := 28#32
  let arg0 : BitVec 32 := BitVec.ofNat 32 (i 0).val
  let v202 : Index := Scalar.indexCast arg0
  ![28, v202.toNat]
def k0_off30 (i : grid0.Coords) : Fin 2 → Nat :=
  let c29 : Index := 29#32
  let arg0 : BitVec 32 := BitVec.ofNat 32 (i 0).val
  let v208 : Index := Scalar.indexCast arg0
  ![29, v208.toNat]
def k0_off31 (i : grid0.Coords) : Fin 2 → Nat :=
  let c30 : Index := 30#32
  let arg0 : BitVec 32 := BitVec.ofNat 32 (i 0).val
  let v214 : Index := Scalar.indexCast arg0
  ![30, v214.toNat]
def k0_off32 (i : grid0.Coords) : Fin 2 → Nat :=
  let c31 : Index := 31#32
  let arg0 : BitVec 32 := BitVec.ofNat 32 (i 0).val
  let v220 : Index := Scalar.indexCast arg0
  ![31, v220.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S32x8 : Shape := ⟨2, ![32, 8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S128x128x8 : Shape := ⟨3, ![128, 128, 8]⟩
abbrev S1x8 : Shape := ⟨2, ![1, 8]⟩
abbrev S8 : Shape := ⟨1, ![8]⟩
abbrev S1x128x128x8 : Shape := ⟨4, ![1, 128, 128, 8]⟩
abbrev S2x128x128x8 : Shape := ⟨4, ![2, 128, 128, 8]⟩
abbrev S1x1x1x8 : Shape := ⟨4, ![1, 1, 1, 8]⟩
abbrev S8x2x128x128 : Shape := ⟨4, ![8, 2, 128, 128]⟩

abbrev nBuf : Space → Nat
  | .hbm => 117
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S_, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i1⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128x1, .i32⟩
  | .hbm, ⟨51, _⟩ => ⟨S128x128x8, .f32⟩
  | .hbm, ⟨52, _⟩ => ⟨S128x1, .i32⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S1x128, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i1⟩
  | .hbm, ⟨63, _⟩ => ⟨S_, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .f32⟩
  | .hbm, ⟨73, _⟩ => ⟨S_, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S_, .i32⟩
  | .hbm, ⟨88, _⟩ => ⟨S128x128, .i32⟩
  | .hbm, ⟨89, _⟩ => ⟨S128x128, .i32⟩
  | .hbm, ⟨90, _⟩ => ⟨S_, .i32⟩
  | .hbm, ⟨91, _⟩ => ⟨S128x128, .i32⟩
  | .hbm, ⟨92, _⟩ => ⟨S128x128, .i1⟩
  | .hbm, ⟨93, _⟩ => ⟨S128x128, .i32⟩
  | .hbm, ⟨94, _⟩ => ⟨S128x128, .i32⟩
  | .hbm, ⟨95, _⟩ => ⟨S128x128, .i32⟩
  | .hbm, ⟨96, _⟩ => ⟨S_, .i32⟩
  | .hbm, ⟨97, _⟩ => ⟨S128x128, .i32⟩
  | .hbm, ⟨98, _⟩ => ⟨S128x128, .i1⟩
  | .hbm, ⟨99, _⟩ => ⟨S_, .i32⟩
  | .hbm, ⟨100, _⟩ => ⟨S128x128, .i32⟩
  | .hbm, ⟨101, _⟩ => ⟨S128x128, .i32⟩
  | .hbm, ⟨102, _⟩ => ⟨S128x128, .i32⟩
  | .hbm, ⟨103, _⟩ => ⟨S128x128x1, .i32⟩
  | .hbm, ⟨104, _⟩ => ⟨S128x128x8, .f32⟩
  | .hbm, ⟨105, _⟩ => ⟨S1x8, .f32⟩
  | .hbm, ⟨106, _⟩ => ⟨S8, .f32⟩
  | .hbm, ⟨107, _⟩ => ⟨S1x128x128x8, .f32⟩
  | .hbm, ⟨108, _⟩ => ⟨S1x128x128x8, .f32⟩
  | .hbm, ⟨109, _⟩ => ⟨S2x128x128x8, .f32⟩
  | .hbm, ⟨110, _⟩ => ⟨S1x1x1x8, .f32⟩
  | .hbm, ⟨111, _⟩ => ⟨S2x128x128x8, .f32⟩
  | .hbm, ⟨112, _⟩ => ⟨S2x128x128x8, .f32⟩
  | .hbm, ⟨113, _⟩ => ⟨S8x2x128x128, .f32⟩
  | .hbm, ⟨114, _⟩ => ⟨S_, .f32⟩
  | .hbm, ⟨115, _⟩ => ⟨S8x2x128x128, .f32⟩
  | .hbm, ⟨116, _⟩ => ⟨S8x2x128x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_c_13 : Ref sig .tc := ⟨.hbm, 64, rfl⟩
abbrev main_call2_v0 : Ref sig .tc := ⟨.hbm, 65, rfl⟩
abbrev main_call2_v1 : Ref sig .tc := ⟨.hbm, 66, rfl⟩
abbrev main_v46 : Ref sig .tc := ⟨.hbm, 67, rfl⟩
abbrev main_v47 : Ref sig .tc := ⟨.hbm, 68, rfl⟩
abbrev main_c_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_18 : Ref sig .tc := ⟨.hbm, 84, rfl⟩
abbrev main_v59 : Ref sig .tc := ⟨.hbm, 85, rfl⟩
abbrev main_v60 : Ref sig .tc := ⟨.hbm, 86, rfl⟩
abbrev main_c_19 : Ref sig .tc := ⟨.hbm, 87, rfl⟩
abbrev main_v61 : Ref sig .tc := ⟨.hbm, 88, rfl⟩
abbrev main_v62 : Ref sig .tc := ⟨.hbm, 89, rfl⟩
abbrev main_c_20 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_21 : Ref sig .tc := ⟨.hbm, 96, rfl⟩
abbrev main_v68 : Ref sig .tc := ⟨.hbm, 97, rfl⟩
abbrev main_v69 : Ref sig .tc := ⟨.hbm, 98, rfl⟩
abbrev main_c_22 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_23 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Kernel7.lean ====
abbrev S2x8320x1024 : Shape := ⟨3, ![2, 8320, 1024]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S1x1040x1024 : Shape := ⟨3, ![1, 1040, 1024]⟩
abbrev S1040x1024 : Shape := ⟨2, ![1040, 1024]⟩
abbrev S1040x1 : Shape := ⟨2, ![1040, 1]⟩
abbrev S1x208x1024 : Shape := ⟨3, ![1, 208, 1024]⟩
abbrev S208x1024 : Shape := ⟨2, ![208, 1024]⟩
abbrev S1024x1024 : Shape := ⟨2, ![1024, 1024]⟩
abbrev S208x1 : Shape := ⟨2, ![208, 1]⟩
abbrev S208 : Shape := ⟨1, ![208]⟩

abbrev nBuf : Space → Nat
  | .hbm => 14
  | .vmem => 16
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S1x1024x1024, .f32⟩
  | .hbm, ⟨4, _⟩ => ⟨S4x1024x4096, .f32⟩
  | .hbm, ⟨5, _⟩ => ⟨S4x4096x1024, .f32⟩
  | .hbm, ⟨6, _⟩ => ⟨S1x1024x1024, .bf16⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S2x8320x1024, .f32⟩
  | .local _ .vmem, ⟨0, _⟩ => ⟨S1x1040x1024, .bf16⟩
  | .local _ .vmem, ⟨1, _⟩ => ⟨S1x1040x1024, .bf16⟩
  | .local _ .vmem, ⟨2, _⟩ => ⟨S1x1024x1024, .bf16⟩
  | .local _ .vmem, ⟨3, _⟩ => ⟨S1x1040x1024, .f32⟩
  | .local _ .vmem, ⟨4, _⟩ => ⟨S1x1040x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1x1040x1024, .f32⟩
  | .local _ .vmem, ⟨12, _⟩ => ⟨S1x1040x1024, .f32⟩
  | .local _ .vmem, ⟨13, _⟩ => ⟨S1040x1024, .bf16⟩
  | .local _ .vmem, ⟨14, _⟩ => ⟨S1040x1024, .f32⟩
  | .local _ .vmem, ⟨15, _⟩ => ⟨S1040x1024, .f32⟩
  | _, _ => ⟨S2x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1040x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference7Ideal.lean ====
abbrev S2x8320x1024 : Shape := ⟨3, ![2, 8320, 1024]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S8320 : Shape := ⟨1, ![8320]⟩
abbrev S_ : Shape := ⟨0, ![]⟩
abbrev S1x8320x1 : Shape := ⟨3, ![1, 8320, 1]⟩
abbrev S1024x1024 : Shape := ⟨2, ![1024, 1024]⟩
abbrev S1x1024 : Shape := ⟨2, ![1, 1024]⟩
abbrev S1024 : Shape := ⟨1, ![1024]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8320x4096 : Shape := ⟨3, ![2, 8320, 4096]⟩
abbrev S1x4096x1024 : Shape := ⟨3, ![1, 4096, 1024]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S1x1024x1024, .f32⟩
  | .hbm, ⟨4, _⟩ => ⟨S4x1024x4096, .f32⟩
  | .hbm, ⟨5, _⟩ => ⟨S4x4096x1024, .f32⟩
  | .hbm, ⟨6, _⟩ => ⟨S8320, .i32⟩
  | .hbm, ⟨7, _⟩ => ⟨S_, .i32⟩
  | .hbm, ⟨8, _⟩ => ⟨S8320, .i32⟩
  | .hbm, ⟨9, _⟩ => ⟨S8320, .i1⟩
  | .hbm, ⟨10, _⟩ => ⟨S1x8320x1, .i1⟩
  | .hbm, ⟨11, _⟩ => ⟨S1x8320x1, .f32⟩
  | .hbm, ⟨12, _⟩ => ⟨S2x8320x1024, .f32⟩
  | .hbm, ⟨13, _⟩ => ⟨S1024x1024, .f32⟩
  | .hbm, ⟨14, _⟩ => ⟨S2x8320x1024, .f32⟩
  | .hbm, ⟨15, _⟩ => ⟨S2x8320x1024, .f32⟩
  | .hbm, ⟨16, _⟩ => ⟨S2x8320x1024, .f32⟩
  | .hbm, ⟨17, _⟩ => ⟨S2x8320x1024, .f32⟩
  | .hbm, ⟨18, _⟩ => ⟨S1x1024, .f32⟩
  | .hbm, ⟨19, _⟩ => ⟨S1024, .f32⟩
  | .hbm, ⟨20, _⟩ => ⟨S2x8320x1024, .f32⟩
  | .hbm, ⟨21, _⟩ => ⟨S_, .f32⟩
  | .hbm, ⟨22, _⟩ => ⟨S2x8320, .f32⟩
  | .hbm, ⟨23, _⟩ => ⟨S2x8320x1, .f32⟩
  | .hbm, ⟨24, _⟩ => ⟨S_, .f32⟩
  | .hbm, ⟨25, _⟩ => ⟨S2x8320x1, .f32⟩
  | .hbm, ⟨26, _⟩ => ⟨S2x8320x1, .f32⟩
  | .hbm, ⟨27, _⟩ => ⟨S_, .f32⟩
  | .hbm, ⟨28, _⟩ => ⟨S2x8320x1, .f32⟩
  | .hbm, ⟨29, _⟩ => ⟨S2x8320x1, .f32⟩
  | .hbm, ⟨30, _⟩ => ⟨S2x8320x1, .f32⟩
  | .hbm, ⟨31, _⟩ => ⟨S2x8320x1024, .f32⟩
  | .hbm, ⟨32, _⟩ => ⟨S2x8320x1024, .f32⟩
  | .hbm, ⟨33, _⟩ => ⟨S1x1x1024, .f32⟩
  | .hbm, ⟨34, _⟩ => ⟨S2x8320x1024, .f32⟩
  | .hbm, ⟨35, _⟩ => ⟨S2x8320x1024, .f32⟩
  | .hbm, ⟨36, _⟩ => ⟨S1x1024x4096, .f32⟩
  | .hbm, ⟨37, _⟩ => ⟨S1024x4096, .f32⟩
  | .hbm, ⟨38, _⟩ => ⟨S2x8320x4096, .f32⟩
  | .hbm, ⟨39, _⟩ => ⟨S_, .f32⟩
  | .hbm, ⟨40, _⟩ => ⟨S2x8320x4096, .f32⟩
  | .hbm, ⟨41, _⟩ => ⟨S2x8320x4096, .f32⟩
  | .hbm, ⟨42, _⟩ => ⟨S2x8320x4096, .f32⟩
  | .hbm, ⟨43, _⟩ => ⟨S1x4096x1024, .f32⟩
  | .hbm, ⟨44, _⟩ => ⟨S4096x1024, .f32⟩
  | .hbm, ⟨45, _⟩ => ⟨S2x8320x1024, .f32⟩
  | .hbm, ⟨46, _⟩ => ⟨S2x8320x1024, .f32⟩
  | .hbm, ⟨47, _⟩ => ⟨S2x8320x1024, .f32⟩
  | .hbm, ⟨48, _⟩ => ⟨S2x8320x1024, .f32⟩
  | _, _ => ⟨S2x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S2x8320x1024 : Shape := ⟨3, ![2, 8320, 1024]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024 : Shape := ⟨1, ![1024]⟩
abbrev S1x1040x1024 : Shape := ⟨3, ![1, 1040, 1024]⟩
abbrev S1040x1024 : Shape := ⟨2, ![1040, 1024]⟩
abbrev S1040x1 : Shape := ⟨2, ![1040, 1]⟩
abbrev S1x208x1024 : Shape := ⟨3, ![1, 208, 1024]⟩
abbrev S208x1024 : Shape := ⟨2, ![208, 1024]⟩
abbrev S1024x1024 : Shape := ⟨2, ![1024, 1024]⟩
abbrev S208x1 : Shape := ⟨2, ![208, 1]⟩
abbrev S208 : Shape := ⟨1, ![208]⟩

abbrev nBuf : Space → Nat
  | .hbm => 14
  | .vmem => 16
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S1x1024x1024, .f32⟩
  | .hbm, ⟨4, _⟩ => ⟨S4x1024x4096, .f32⟩
  | .hbm, ⟨5, _⟩ => ⟨S4x4096x1024, .f32⟩
  | .hbm, ⟨6, _⟩ => ⟨S1x1024x1024, .bf16⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S2x8320x1024, .f32⟩
  | .local _ .vmem, ⟨0, _⟩ => ⟨S1x1040x1024, .bf16⟩
  | .local _ .vmem, ⟨1, _⟩ => ⟨S1x1040x1024, .bf16⟩
  | .local _ .vmem, ⟨2, _⟩ => ⟨S1x1024x1024, .bf16⟩
  | .local _ .vmem, ⟨3, _⟩ => ⟨S1x1040x1024, .f32⟩
  | .local _ .vmem, ⟨4, _⟩ => ⟨S1x1040x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1x1040x1024, .f32⟩
  | .local _ .vmem, ⟨12, _⟩ => ⟨S1x1040x1024, .f32⟩
  | .local _ .vmem, ⟨13, _⟩ => ⟨S1040x1024, .bf16⟩
  | .local _ .vmem, ⟨14, _⟩ => ⟨S1040x1024, .f32⟩
  | .local _ .vmem, ⟨15, _⟩ => ⟨S1040x1024, .f32⟩
  | _, _ => ⟨S2x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1040x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference8Ideal.lean ====
abbrev S2x8320x1024 : Shape := ⟨3, ![2, 8320, 1024]⟩
abbrev S4x1024 : Shape := ⟨2, ![4, 1024]⟩
abbrev S1x1024x1024 : Shape := ⟨3, ![1, 1024, 1024]⟩
abbrev S4x1024x4096 : Shape := ⟨3, ![4, 1024, 4096]⟩
abbrev S4x4096x1024 : Shape := ⟨3, ![4, 4096, 1024]⟩
abbrev S8320 : Shape := ⟨1, ![8320]⟩
abbrev S_ : Shape := ⟨0, ![]⟩
abbrev S1x8320x1 : Shape := ⟨3, ![1, 8320, 1]⟩
abbrev S1024x1024 : Shape := ⟨2, ![1024, 1024]⟩
abbrev S1x1024 : Shape := ⟨2, ![1, 1024]⟩
abbrev S1024 : Shape := ⟨1, ![1024]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8320x4096 : Shape := ⟨3, ![2, 8320, 4096]⟩
abbrev S1x4096x1024 : Shape := ⟨3, ![1, 4096, 1024]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .f32⟩
  | .hbm, ⟨2, _⟩ => ⟨S4x1024, .f32⟩
  | .hbm, ⟨3, _⟩ => ⟨S1x1024x1024, .f32⟩
  | .hbm, ⟨4, _⟩ => ⟨S4x1024x4096, .f32⟩
  | .hbm, ⟨5, _⟩ => ⟨S4x4096x1024, .f32⟩
  | .hbm, ⟨6, _⟩ => ⟨S8320, .i32⟩
  | .hbm, ⟨7, _⟩ => ⟨S_, .i32⟩
  | .hbm, ⟨8, _⟩ => ⟨S8320, .i32⟩
  | .hbm, ⟨9, _⟩ => ⟨S8320, .i1⟩
  | .hbm, ⟨10, _⟩ => ⟨S1x8320x1, .i1⟩
  | .hbm, ⟨11, _⟩ => ⟨S1x8320x1, .f32⟩
  | .hbm, ⟨12, _⟩ => ⟨S2x8320x1024, .f32⟩
  | .hbm, ⟨13, _⟩ => ⟨S1024x1024, .f32⟩
  | .hbm, ⟨14, _⟩ => ⟨S2x8320x1024, .f32⟩
  | .hbm, ⟨15, _⟩ => ⟨S2x8320x1024, .f32⟩
  | .hbm, ⟨16, _⟩ => ⟨S2x8320x1024, .f32⟩
  | .hbm, ⟨17, _⟩ => ⟨S2x8320x1024, .f32⟩
  | .hbm, ⟨18, _⟩ => ⟨S1x1024, .f32⟩
  | .hbm, ⟨19, _⟩ => ⟨S1024, .f32⟩
  | .hbm, ⟨20, _⟩ => ⟨S2x8320x1024, .f32⟩
  | .hbm, ⟨21, _⟩ => ⟨S_, .f32⟩
  | .hbm, ⟨22, _⟩ => ⟨S2x8320, .f32⟩
  | .hbm, ⟨23, _⟩ => ⟨S2x8320x1, .f32⟩
  | .hbm, ⟨24, _⟩ => ⟨S_, .f32⟩
  | .hbm, ⟨25, _⟩ => ⟨S2x8320x1, .f32⟩
  | .hbm, ⟨26, _⟩ => ⟨S2x8320x1, .f32⟩
  | .hbm, ⟨27, _⟩ => ⟨S_, .f32⟩
  | .hbm, ⟨28, _⟩ => ⟨S2x8320x1, .f32⟩
  | .hbm, ⟨29, _⟩ => ⟨S2x8320x1, .f32⟩
  | .hbm, ⟨30, _⟩ => ⟨S2x8320x1, .f32⟩
  | .hbm, ⟨31, _⟩ => ⟨S2x8320x1024, .f32⟩
  | .hbm, ⟨32, _⟩ => ⟨S2x8320x1024, .f32⟩
  | .hbm, ⟨33, _⟩ => ⟨S1x1x1024, .f32⟩
  | .hbm, ⟨34, _⟩ => ⟨S2x8320x1024, .f32⟩
  | .hbm, ⟨35, _⟩ => ⟨S2x8320x1024, .f32⟩
  | .hbm, ⟨36, _⟩ => ⟨S1x1024x4096, .f32⟩
  | .hbm, ⟨37, _⟩ => ⟨S1024x4096, .f32⟩
  | .hbm, ⟨38, _⟩ => ⟨S2x8320x4096, .f32⟩
  | .hbm, ⟨39, _⟩ => ⟨S_, .f32⟩
  | .hbm, ⟨40, _⟩ => ⟨S2x8320x4096, .f32⟩
  | .hbm, ⟨41, _⟩ => ⟨S2x8320x4096, .f32⟩
  | .hbm, ⟨42, _⟩ => ⟨S2x8320x4096, .f32⟩
  | .hbm, ⟨43, _⟩ => ⟨S1x4096x1024, .f32⟩
  | .hbm, ⟨44, _⟩ => ⟨S4096x1024, .f32⟩
  | .hbm, ⟨45, _⟩ => ⟨S2x8320x1024, .f32⟩
  | .hbm, ⟨46, _⟩ => ⟨S2x8320x1024, .f32⟩
  | .hbm, ⟨47, _⟩ => ⟨S2x8320x1024, .f32⟩
  | .hbm, ⟨48, _⟩ => ⟨S2x8320x1024, .f32⟩
  | _, _ => ⟨S2x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel9.lean ====
abbrev S2x8320x1024 : Shape := ⟨3, ![2, 8320, 1024]⟩
abbrev S4x1024 : Shape := ⟨2, ![4, 1024]⟩
abbrev S2x1024x4112 : Shape := ⟨3, ![2, 1024, 4112]⟩
abbrev S_ : Shape := ⟨0, ![]⟩
abbrev S2x1024x112 : Shape := ⟨3, ![2, 1024, 112]⟩
abbrev S2x1024x4224 : Shape := ⟨3, ![2, 1024, 4224]⟩
abbrev S1x1024 : Shape := ⟨2, ![1, 1024]⟩
abbrev S1024 : Shape := ⟨1, ![1024]⟩
abbrev S2x8320x4224 : Shape := ⟨3, ![2, 8320, 4224]⟩
abbrev S2x8320x128 : Shape := ⟨3, ![2, 8320, 128]⟩
abbrev S1x2080x1024 : Shape := ⟨3, ![1, 2080, 1024]⟩
abbrev S1x1024x1408 : Shape := ⟨3, ![1, 1024, 1408]⟩
abbrev S1x2080x1408 : Shape := ⟨3, ![1, 2080, 1408]⟩
abbrev S1x2080x128 : Shape := ⟨3, ![1, 2080, 128]⟩
abbrev S2080x1024 : Shape := ⟨2, ![2080, 1024]⟩
abbrev S2080 : Shape := ⟨1, ![2080]⟩
abbrev S2080x1 : Shape := ⟨2, ![2080, 1]⟩
abbrev S1024x1408 : Shape := ⟨2, ![1024, 1408]⟩
abbrev S2080x1408 : Shape := ⟨2, ![2080, 1408]⟩
abbrev S2080x128 : Shape := ⟨2, ![2080, 128]⟩

abbrev nBuf : Space → Nat
  | .hbm => 12
  | .vmem => 10
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S2x1024x4112, .f32⟩
  | .hbm, ⟨3, _⟩ => ⟨S_, .f32⟩
  | .hbm, ⟨4, _⟩ => ⟨S2x1024x112, .f32⟩
  | .hbm, ⟨5, _⟩ => ⟨S2x1024x4224, .f32⟩
  | .hbm, ⟨6, _⟩ => ⟨S2x1024x4224, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S2x8320x4224, .bf16⟩
  | .hbm, ⟨11, _⟩ => ⟨S2x8320x128, .f32⟩
  | .local _ .vmem, ⟨0, _⟩ => ⟨S1x2080x1024, .f32⟩
  | .local _ .vmem, ⟨1, _⟩ => ⟨S1x2080x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x2080x1408, .bf16⟩
  | .local _ .vmem, ⟨6, _⟩ => ⟨S1x2080x1408, .bf16⟩
  | .local _ .vmem, ⟨7, _⟩ => ⟨S1x2080x128, .f32⟩
  | .local _ .vmem, ⟨8, _⟩ => ⟨S1x2080x128, .f32⟩
  | .local _ .vmem, ⟨9, _⟩ => ⟨S2080x1024, .bf16⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2080x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S2x8320x1024 : Shape := ⟨3, ![2, 8320, 1024]⟩
abbrev S4x1024 : Shape := ⟨2, ![4, 1024]⟩
abbrev S2x1024x4112 : Shape := ⟨3, ![2, 1024, 4112]⟩
abbrev S1x1024 : Shape := ⟨2, ![1, 1024]⟩
abbrev S1024 : Shape := ⟨1, ![1024]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4112 : Shape := ⟨3, ![1, 1024, 4112]⟩
abbrev S1024x4112 : Shape := ⟨2, ![1024, 4112]⟩
abbrev S2x8320x4112 : Shape := ⟨3, ![2, 8320, 4112]⟩
abbrev S2x8320x4224 : Shape := ⟨3, ![2, 8320, 4224]⟩
abbrev S2x8320x128 : Shape := ⟨3, ![2, 8320, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S4x1024, .f32⟩
  | .hbm, ⟨2, _⟩ => ⟨S2x1024x4112, .f32⟩
  | .hbm, ⟨3, _⟩ => ⟨S1x1024, .f32⟩
  | .hbm, ⟨4, _⟩ => ⟨S1024, .f32⟩
  | .hbm, ⟨5, _⟩ => ⟨S2x8320x1024, .f32⟩
  | .hbm, ⟨6, _⟩ => ⟨S_, .f32⟩
  | .hbm, ⟨7, _⟩ => ⟨S2x8320, .f32⟩
  | .hbm, ⟨8, _⟩ => ⟨S2x8320x1, .f32⟩
  | .hbm, ⟨9, _⟩ => ⟨S_, .f32⟩
  | .hbm, ⟨10, _⟩ => ⟨S2x8320x1, .f32⟩
  | .hbm, ⟨11, _⟩ => ⟨S2x8320x1, .f32⟩
  | .hbm, ⟨12, _⟩ => ⟨S_, .f32⟩
  | .hbm, ⟨13, _⟩ => ⟨S2x8320x1, .f32⟩
  | .hbm, ⟨14, _⟩ => ⟨S2x8320x1, .f32⟩
  | .hbm, ⟨15, _⟩ => ⟨S2x8320x1, .f32⟩
  | .hbm, ⟨16, _⟩ => ⟨S2x8320x1024, .f32⟩
  | .hbm, ⟨17, _⟩ => ⟨S2x8320x1024, .f32⟩
  | .hbm, ⟨18, _⟩ => ⟨S1x1x1024, .f32⟩
  | .hbm, ⟨19, _⟩ => ⟨S2x8320x1024, .f32⟩
  | .hbm, ⟨20, _⟩ => ⟨S2x8320x1024, .f32⟩
  | .hbm, ⟨21, _⟩ => ⟨S1x1024x4112, .f32⟩
  | .hbm, ⟨22, _⟩ => ⟨S1024x4112, .f32⟩
  | .hbm, ⟨23, _⟩ => ⟨S2x8320x4112, .f32⟩
  | .hbm, ⟨24, _⟩ => ⟨S_, .i32⟩
  | .hbm, ⟨25, _⟩ => ⟨S_, .f32⟩
  | .hbm, ⟨26, _⟩ => ⟨S2x8320x4224, .f32⟩
  | .hbm, ⟨27, _⟩ => ⟨S2x8320x4224, .bf16⟩
  | .hbm, ⟨28, _⟩ => ⟨S2x8320x128, .f32⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel10.lean ====
abbrev S2x8192x1024 : Shape := ⟨3, ![2, 8192, 1024]⟩
abbrev S16x1024 : Shape := ⟨2, ![16, 1024]⟩
abbrev S4x1024 : Shape := ⟨2, ![4, 1024]⟩
abbrev S2x1024x4112 : Shape := ⟨3, ![2, 1024, 4112]⟩
abbrev S_ : Shape := ⟨0, ![]⟩
abbrev S2x112x1024 : Shape := ⟨3, ![2, 112, 1024]⟩
abbrev S1x16x1024 : Shape := ⟨3, ![1, 16, 1024]⟩
abbrev S2x16x1024 : Shape := ⟨3, ![2, 16, 1024]⟩
abbrev S2x8320x1024 : Shape := ⟨3, ![2, 8320, 1024]⟩
abbrev S2x1024x112 : Shape := ⟨3, ![2, 1024, 112]⟩
abbrev S2x1024x4224 : Shape := ⟨3, ![2, 1024, 4224]⟩
abbrev S1x1024 : Shape := ⟨2, ![1, 1024]⟩
abbrev S1024 : Shape := ⟨1, ![1024]⟩
abbrev S2x8320x4224 : Shape := ⟨3, ![2, 8320, 4224]⟩
abbrev S2x8320x128 : Shape := ⟨3, ![2, 8320, 128]⟩
abbrev S1x2080x1024 : Shape := ⟨3, ![1, 2080, 1024]⟩
abbrev S1x1024x1408 : Shape := ⟨3, ![1, 1024, 1408]⟩
abbrev S1x2080x1408 : Shape := ⟨3, ![1, 2080, 1408]⟩
abbrev S1x2080x128 : Shape := ⟨3, ![1, 2080, 128]⟩
abbrev S2080x1024 : Shape := ⟨2, ![2080, 1024]⟩
abbrev S2080 : Shape := ⟨1, ![2080]⟩
abbrev S2080x1 : Shape := ⟨2, ![2080, 1]⟩
abbrev S1024x1408 : Shape := ⟨2, ![1024, 1408]⟩
abbrev S2080x1408 : Shape := ⟨2, ![2080, 1408]⟩
abbrev S2080x128 : Shape := ⟨2, ![2080, 128]⟩

abbrev nBuf : Space → Nat
  | .hbm => 18
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S4x1024, .f32⟩
  | .hbm, ⟨3, _⟩ => ⟨S2x1024x4112, .f32⟩
  | .hbm, ⟨4, _⟩ => ⟨S_, .f32⟩
  | .hbm, ⟨5, _⟩ => ⟨S2x112x1024, .f32⟩
  | .hbm, ⟨6, _⟩ => ⟨S1x16x1024, .f32⟩
  | .hbm, ⟨7, _⟩ => ⟨S2x16x1024, .f32⟩
  | .hbm, ⟨8, _⟩ => ⟨S2x8320x1024, .f32⟩
  | .hbm, ⟨9, _⟩ => ⟨S_, .f32⟩
  | .hbm, ⟨10, _⟩ => ⟨S2x1024x112, .f32⟩
  | .hbm, ⟨11, _⟩ => ⟨S2x1024x4224, .f32⟩
  | .hbm, ⟨12, _⟩ => ⟨S2x1024x4224, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2x8320x4224, .bf16⟩
  | .hbm, ⟨17, _⟩ => ⟨S2x8320x128, .f32⟩
  | .local _ .vmem, ⟨0, _⟩ => ⟨S1x2080x1024, .f32⟩
  | .local _ .vmem, ⟨1, _⟩ => ⟨S1x2080x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x2080x1408, .bf16⟩
  | .local _ .vmem, ⟨6, _⟩ => ⟨S1x2080x1408, .bf16⟩
  | .local _ .vmem, ⟨7, _⟩ => ⟨S1x2080x128, .f32⟩
  | .local _ .vmem, ⟨8, _⟩ => ⟨S1x2080x128, .f32⟩
  | .local _ .vmem, ⟨9, _⟩ => ⟨S2080x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2080x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S2x8192x1024 : Shape := ⟨3, ![2, 8192, 1024]⟩
abbrev S16x1024 : Shape := ⟨2, ![16, 1024]⟩
abbrev S4x1024 : Shape := ⟨2, ![4, 1024]⟩
abbrev S2x1024x4112 : Shape := ⟨3, ![2, 1024, 4112]⟩
abbrev S_ : Shape := ⟨0, ![]⟩
abbrev S2x112x1024 : Shape := ⟨3, ![2, 112, 1024]⟩
abbrev S1x16x1024 : Shape := ⟨3, ![1, 16, 1024]⟩
abbrev S2x16x1024 : Shape := ⟨3, ![2, 16, 1024]⟩
abbrev S2x8320x1024 : Shape := ⟨3, ![2, 8320, 1024]⟩
abbrev S1x1024 : Shape := ⟨2, ![1, 1024]⟩
abbrev S1024 : Shape := ⟨1, ![1024]⟩
abbrev S2x8320 : Shape := ⟨2, ![2, 8320]⟩
abbrev S2x8320x1 : Shape := ⟨3, ![2, 8320, 1]⟩
abbrev S1x1x1024 : Shape := ⟨3, ![1, 1, 1024]⟩
abbrev S1x1024x4112 : Shape := ⟨3, ![1, 1024, 4112]⟩
abbrev S1024x4112 : Shape := ⟨2, ![1024, 4112]⟩
abbrev S2x8320x4112 : Shape := ⟨3, ![2, 8320, 4112]⟩
abbrev S2x8320x4224 : Shape := ⟨3, ![2, 8320, 4224]⟩
abbrev S2x8320x128 : Shape := ⟨3, ![2, 8320, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S4x1024, .f32⟩
  | .hbm, ⟨3, _⟩ => ⟨S2x1024x4112, .f32⟩
  | .hbm, ⟨4, _⟩ => ⟨S_, .f32⟩
  | .hbm, ⟨5, _⟩ => ⟨S2x112x1024, .f32⟩
  | .hbm, ⟨6, _⟩ => ⟨S1x16x1024, .f32⟩
  | .hbm, ⟨7, _⟩ => ⟨S2x16x1024, .f32⟩
  | .hbm, ⟨8, _⟩ => ⟨S2x8320x1024, .f32⟩
  | .hbm, ⟨9, _⟩ => ⟨S1x1024, .f32⟩
  | .hbm, ⟨10, _⟩ => ⟨S1024, .f32⟩
  | .hbm, ⟨11, _⟩ => ⟨S2x8320x1024, .f32⟩
  | .hbm, ⟨12, _⟩ => ⟨S_, .f32⟩
  | .hbm, ⟨13, _⟩ => ⟨S2x8320, .f32⟩
  | .hbm, ⟨14, _⟩ => ⟨S2x8320x1, .f32⟩
  | .hbm, ⟨15, _⟩ => ⟨S_, .f32⟩
  | .hbm, ⟨16, _⟩ => ⟨S2x8320x1, .f32⟩
  | .hbm, ⟨17, _⟩ => ⟨S2x8320x1, .f32⟩
  | .hbm, ⟨18, _⟩ => ⟨S_, .f32⟩
  | .hbm, ⟨19, _⟩ => ⟨S2x8320x1, .f32⟩
  | .hbm, ⟨20, _⟩ => ⟨S2x8320x1, .f32⟩
  | .hbm, ⟨21, _⟩ => ⟨S2x8320x1, .f32⟩
  | .hbm, ⟨22, _⟩ => ⟨S2x8320x1024, .f32⟩
  | .hbm, ⟨23, _⟩ => ⟨S2x8320x1024, .f32⟩
  | .hbm, ⟨24, _⟩ => ⟨S1x1x1024, .f32⟩
  | .hbm, ⟨25, _⟩ => ⟨S2x8320x1024, .f32⟩
  | .hbm, ⟨26, _⟩ => ⟨S2x8320x1024, .f32⟩
  | .hbm, ⟨27, _⟩ => ⟨S1x1024x4112, .f32⟩
  | .hbm, ⟨28, _⟩ => ⟨S1024x4112, .f32⟩
  | .hbm, ⟨29, _⟩ => ⟨S2x8320x4112, .f32⟩
  | .hbm, ⟨30, _⟩ => ⟨S_, .i32⟩
  | .hbm, ⟨31, _⟩ => ⟨S_, .f32⟩
  | .hbm, ⟨32, _⟩ => ⟨S2x8320x4224, .f32⟩
  | .hbm, ⟨33, _⟩ => ⟨S2x8320x4224, .bf16⟩
  | .hbm, ⟨34, _⟩ => ⟨S2x8320x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.TailMath.lean ====
module
public import Idealize.ShloMosaic.Lib.Pointwise
@[expose] public section
/-! The end of a layer, one row at a time, as plain functions on the extended reals: root-mean-square norm, output projection with its
    residual, and the squared-ReLU feed-forward block, whole and cut into four groups of hidden units. -/
set_option maxRecDepth 16384
noncomputable section
open Idealize.ShloMosaic Idealize.ShloMosaic.TcCoe Idealize.SL.Sem
namespace Cert.Tail

/-- A row of the model's width. -/
abbrev Row := Fin 1024 → EReal

/-- The root-mean-square norm of the row `x`, scaled by `w`. -/
def rms (x w : Row) : Row := fun d =>
  x d * Ideal.rsqrt (Ideal.div (∑ k : Fin 1024, x k * x k) (Ideal.ofBits .f32 0x44800000#32) + Ideal.ofBits .f32 0x358637BD#32) * w d

/-- `x` at rows after the front padding, zero at the padded rows. -/
def keep (l : ℕ) (x : EReal) : EReal := if 112 ≤ l then x else 0

theorem keep_pos {l : ℕ} (h : 112 ≤ l) (x : EReal) : keep l x = x := if_pos h

/-- The residual row after the mixer: `h` plus the kept projection of `y`. -/
def mix (l : ℕ) (h y : Row) (wo : Fin 1024 → Row) : Row := fun d => h d + keep l (∑ k : Fin 1024, y k * wo k d)

/-- The activation of one hidden unit with weights `w`. -/
def act (u w : Row) : EReal := max (∑ e : Fin 1024, u e * w e) 0 * max (∑ e : Fin 1024, u e * w e) 0

/-- Hidden unit `k` of group `s`. -/
def unit (s : Fin 4) (k : Fin 1024) : Fin 4096 := ⟨s * 1024 + k, by omega⟩

/-- What group `s` of the hidden units adds to the feed-forward output. -/
def group (u : Row) (w1 : Fin 1024 → Fin 4096 → EReal) (w2 : Fin 4096 → Row) (s : Fin 4) : Row := fun d =>
  ∑ k : Fin 1024, act u (fun e => w1 e (unit s k)) * w2 (unit s k) d

/-- The feed-forward output of the row `u`. -/
def ffn (u : Row) (w1 : Fin 1024 → Fin 4096 → EReal) (w2 : Fin 4096 → Row) : Row := fun d =>
  ∑ j : Fin 4096, act u (fun e => w1 e j) * w2 j d

/-- The four groups, added one after the other to zero, are the whole. -/
theorem groups (u : Row) (w1 : Fin 1024 → Fin 4096 → EReal) (w2 : Fin 4096 → Row) (d : Fin 1024) :
    0 + group u w1 w2 0 d + group u w1 w2 1 d + group u w1 w2 2 d + group u w1 w2 3 d = ffn u w1 w2 d := by
  rw [ffn, Fin.sum_univ_tiles 4 1024 rfl, Fin.sum_univ_four, zero_add]
  rfl

/-- The row that leaves the layer: residual row plus its kept feed-forward output. -/
def tail (l : ℕ) (h y : Row) (wo : Fin 1024 → Row) (nw : Row) (w1 : Fin 1024 → Fin 4096 → EReal) (w2 : Fin 4096 → Row) : Row := fun d =>
  mix l h y wo d + keep l (ffn (rms (mix l h y wo) nw) w1 w2 d)

end Cert.Tail
-- ==== Proof.TailBlocks.lean ====
module
public import proofs.«01_k».proof.Proof.Gen.KernelIdeal.Value
public import proofs.«01_k».proof.Proof.TailMath
public import Idealize.ShloMosaic.Lib.Pointwise
public import Idealize.ShloMosaic.Lib.Pipeline.ValueKit
public import Idealize.ShloMosaic.Lib.Claim
@[expose] public section
/-! The last layer's end: where each window's block lies in its array, and what the body's expressions are at an index. -/
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Tail

/-! ## The body's expressions -/

theorem pay2_at (j : S1024x1024.Idx) : k0_pay2 (F := Ideal) j = 0 := by pointwise [k0_pay2]

theorem pay3_at (u : Vec Ideal S1024x1024 .bf16) (w1 : Vec Ideal S1x1024x1024 .bf16) (acc : Vec Ideal S1024x1024 .f32)
    (w2 : Vec Ideal S1x1024x1024 .bf16) (r d : Fin 1024) :
    k0_pay3 u w1 acc w2 (ix2 r d)
      = acc (ix2 r d) + ∑ k : Fin 1024, act (fun e => u (ix2 r e)) (fun e => w1 (ix3 0 e k)) * w2 (ix3 0 k d) := by
  pointwise! [k0_pay3, act]

theorem pay4_at (hs acc : Vec Ideal S1024x1024 .f32) (w : Vec Ideal S1x1024 .f32) (r d : Fin 1024) :
    k0_pay4 hs acc w (ix3 0 r d) = rms (fun e => hs (ix2 r e) + acc (ix2 r e)) (fun e => w (ix2 0 e)) d := by
  pointwise! [k0_pay4, rms]

/-! ## The blocks -/

variable (m : (ℓ : Loc nD τ sig) → Buf (Elt Ideal) ℓ)

theorem idx : ∀ t : Fin cfg0.N, win0_0.index t = ![t.val / 32, 128 + t.val / 4 % 8 * 1024, 0]
    ∧ win0_1.index t = ![1, 0, 0]
    ∧ win0_2.index t = ![t.val / 32, 128 + t.val / 4 % 8 * 1024, 0]
    ∧ win0_3.index t = ![0, 0]
    ∧ win0_4.index t = ![3, 0, t.val % 4]
    ∧ win0_5.index t = ![3, t.val % 4, 0]
    ∧ win0_6.index t = ![0, 0]
    ∧ win0_7.index t = ![t.val / 32, t.val / 4 % 8, 0] :=
  (by decide +kernel : ∀ t : Fin grid0.N, _)

theorem blk0 (c : Dev nD) (t : Fin cfg0.N) (b : Fin 2) (l : Fin 8320) (r k : Fin 1024) (hb : (b : ℕ) = t.val / 32)
    (hl : (l : ℕ) = 128 + t.val / 4 % 8 * 1024 + r) :
    iblk m c 0 t (ix3 0 r k) = m ((c : Thread nD τ).loc main_arg0) (ix3 b l k) := by
  rw [← V_main_arg0 m c]
  blk_simp [iblk]
  refine congrArg _ (funext fun a => Fin.ext ?_)
  fin_cases a
  · show win0_0.index t 0 + 1 * 0 = (b : ℕ)
    rw [(idx t).1]; simpa using hb.symm
  · show win0_0.index t 1 + 1 * (r : ℕ) = (l : ℕ)
    rw [(idx t).1, hl]; simp
  · show win0_0.index t 2 + 1 * (k : ℕ) = (k : ℕ)
    rw [(idx t).1]; simp
theorem blk2 (c : Dev nD) (t : Fin cfg0.N) (b : Fin 2) (l : Fin 8320) (r k : Fin 1024) (hb : (b : ℕ) = t.val / 32)
    (hl : (l : ℕ) = 128 + t.val / 4 % 8 * 1024 + r) :
    iblk m c 2 t (ix3 0 r k) = m ((c : Thread nD τ).loc main_arg1) (ix3 b l k) := by
  rw [← V_main_arg1 m c]
  blk_simp [iblk]
  refine congrArg _ (funext fun a => Fin.ext ?_)
  fin_cases a
  · show win0_2.index t 0 + 1 * 0 = (b : ℕ)
    rw [(idx t).2.2.1]; simpa using hb.symm
  · show win0_2.index t 1 + 1 * (r : ℕ) = (l : ℕ)
    rw [(idx t).2.2.1, hl]; simp
  · show win0_2.index t 2 + 1 * (k : ℕ) = (k : ℕ)
    rw [(idx t).2.2.1]; simp
theorem blk1 (c : Dev nD) (t : Fin cfg0.N) (r k : Fin 1024) :
    iblk m c 1 t (ix3 0 r k) = m ((c : Thread nD τ).loc main_arg4) (ix3 1 r k) := by
  blk_point [iblk, idx t]
theorem blk3 (c : Dev nD) (t : Fin cfg0.N) (k : Fin 1024) :
    iblk m c 3 t (ix2 0 k) = m ((c : Thread nD τ).loc main_arg2) (ix2 3 k) := by
  blk_point [iblk, idx t]
theorem blk4 (c : Dev nD) (t : Fin cfg0.N) (s : Fin 4) (hs : (s : ℕ) = t.val % 4) (e k : Fin 1024) :
    iblk m c 4 t (ix3 0 e k) = m ((c : Thread nD τ).loc main_arg5) (ix3 3 e (unit s k)) := by
  have hj : ((unit s k : Fin 4096) : ℕ) = t.val % 4 * 1024 + k := by rw [← hs]; rfl
  blk_point [iblk, idx t]
theorem blk5 (c : Dev nD) (t : Fin cfg0.N) (s : Fin 4) (hs : (s : ℕ) = t.val % 4) (k d : Fin 1024) :
    iblk m c 5 t (ix3 0 k d) = m ((c : Thread nD τ).loc main_arg6) (ix3 3 (unit s k) d) := by
  have hj : ((unit s k : Fin 4096) : ℕ) = t.val % 4 * 1024 + k := by rw [← hs]; rfl
  blk_point [iblk, idx t]
theorem blk6 (c : Dev nD) (t : Fin cfg0.N) (k : Fin 1024) :
    iblk m c 6 t (ix2 0 k) = m ((c : Thread nD τ).loc main_arg3) (ix1 k) := by
  blk_point [iblk, idx t]

/-! ## The rows of the arguments -/

/-- Row `l` of sequence `b` of the mixer's output. -/
abbrev yRow (c : Dev nD) (b : Fin 2) (l : Fin 8320) : Row := fun k => m ((c : Thread nD τ).loc main_arg0) (ix3 b l k)
/-- Row `l` of sequence `b` of the residual stream. -/
abbrev hRow (c : Dev nD) (b : Fin 2) (l : Fin 8320) : Row := fun k => m ((c : Thread nD τ).loc main_arg1) (ix3 b l k)
/-- The output projection of the layer. -/
abbrev wOut (c : Dev nD) : Fin 1024 → Row := fun k d => m ((c : Thread nD τ).loc main_arg4) (ix3 1 k d)
/-- The norm weights of the feed-forward block. -/
abbrev nW (c : Dev nD) : Row := fun k => m ((c : Thread nD τ).loc main_arg2) (ix2 3 k)
/-- The final norm's weights. -/
abbrev fW (c : Dev nD) : Row := fun k => m ((c : Thread nD τ).loc main_arg3) (ix1 k)
/-- The first feed-forward weights. -/
abbrev w1M (c : Dev nD) : Fin 1024 → Fin 4096 → EReal := fun e j => m ((c : Thread nD τ).loc main_arg5) (ix3 3 e j)
/-- The second feed-forward weights. -/
abbrev w2M (c : Dev nD) : Fin 4096 → Row := fun j d => m ((c : Thread nD τ).loc main_arg6) (ix3 3 j d)
/-- The row after the mixer's residual. -/
abbrev mixRow (c : Dev nD) (b : Fin 2) (l : Fin 8320) : Row := mix l (hRow m c b l) (yRow m c b l) (wOut m c)
/-- That row, normed. -/
abbrev uRow (c : Dev nD) (b : Fin 2) (l : Fin 8320) : Row := rms (mixRow m c b l) (nW m c)

end Cert.KernelIdeal.Value
-- ==== Proof.TailPoints.lean ====
module
public import proofs.«01_k».proof.Proof.TailBlocks
public import Idealize.ShloMosaic.Lib.Pipeline.ReadBack
@[expose] public section
/-! The last layer's end: what the scratch buffers and the output block hold after each grid point. -/
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Tail
variable (m : (ℓ : Loc nD τ sig) → Buf (Elt Ideal) ℓ)

/-- Row `q` of the residual block plus its projection, as the body computes it from its blocks. -/
def mixBlk (c : Dev nD) (t : Fin cfg0.N) (q : Fin 1024) : Row := fun d =>
  (show EReal from iblk m c 2 t (ix3 0 q d))
    + ∑ k : Fin 1024, (show EReal from iblk m c 0 t (ix3 0 q k)) * (show EReal from iblk m c 1 t (ix3 0 k d))

/-- The norm weights' block. -/
def nBlk (c : Dev nD) (t : Fin cfg0.N) : Row := fun d => iblk m c 3 t (ix2 0 d)

/-- That row, read from the arrays. -/
theorem mixBlk_eq (c : Dev nD) (t : Fin cfg0.N) (b : Fin 2) (l : Fin 8320) (q : Fin 1024)
    (hb : (b : ℕ) = t.val / 32) (hl : (l : ℕ) = 128 + t.val / 4 % 8 * 1024 + q) : mixBlk m c t q = mixRow m c b l := by
  funext d
  have hk : 112 ≤ (l : ℕ) := by omega
  rw [mixRow, mix, keep_pos hk, mixBlk]
  simp only [blk0 m c t b l q _ hb hl, blk1, blk2 m c t b l q _ hb hl]

theorem nBlk_eq (c : Dev nD) (t : Fin cfg0.N) : nBlk m c t = nW m c := funext fun d => blk3 m c t d

/-- At a first point the residual scratch holds the rows after the mixer. -/
theorem hs_first (c : Dev nD) (t : Fin cfg0.N) (g0 : t.val % 4 = 0) (g1 : ¬t.val % 4 = 3) (r d : Fin 1024) :
    (outsAt0 m c t.val t.isLt).2.2.1 (ix2 r d) = mixBlk m c t r d := by
  rw [outsAt0_A m c t g0 g1]; frame_out
  canon_tiles x h
  all_goals
    idx_vars x
    obtain rfl : x1 = d := (Fin.ext h1).symm
    open_payloads
    pointwise
    refine Eq.trans (b := mixBlk m c t ⟨_, _⟩ x1) rfl (congrArg (fun q => mixBlk m c t q x1) (Fin.ext h0.symm))

/-- There the normed scratch holds those rows, normed. -/
theorem u_first (c : Dev nD) (t : Fin cfg0.N) (g0 : t.val % 4 = 0) (g1 : ¬t.val % 4 = 3) (r d : Fin 1024) :
    (outsAt0 m c t.val t.isLt).2.1 (ix2 r d) = rms (mixBlk m c t r) (nBlk m c t) d := by
  rw [outsAt0_A m c t g0 g1]; frame_out
  canon_tiles x h
  all_goals
    idx_vars x
    obtain rfl : x1 = d := (Fin.ext h1).symm
    open_payloads
    pointwise
    refine Eq.trans (b := rms (mixBlk m c t ⟨_, _⟩) (nBlk m c t) x1) rfl (congrArg (fun q => rms (mixBlk m c t q) (nBlk m c t) x1) (Fin.ext h0.symm))

/-- There the accumulator is the first group's part, from the normed scratch. -/
theorem acc_first (c : Dev nD) (t : Fin cfg0.N) (h0 : t.val % 4 = 0) (h1 : ¬t.val % 4 = 3) :
    (outsAt0 m c t.val t.isLt).2.2.2
      = k0_pay3 (outsAt0 m c t.val t.isLt).2.1 (iblk m c 4 t) (k0_pay2 (F := Ideal)) (iblk m c 5 t) := by
  rw [outsAt0_A m c t h0 h1]; frame_out
  rw [View.readCov_eq_canon']
  refine congrArg (fun u => k0_pay3 u (iblk m c 4 t) (k0_pay2 (F := Ideal)) (iblk m c 5 t)) (funext fun j => congrArg _ ?_)
  funext a
  fin_cases a
  · exact Fin.ext (by show 0 + 1 * (j 0 : ℕ) = _; rw [zero_add, one_mul]; rfl)
  · exact Fin.ext (by show 0 + 1 * (j 1 : ℕ) = _; rw [zero_add, one_mul]; rfl)

/-- Later points of a block keep the normed scratch. -/
theorem u_mid (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

/-- Later points of a block keep the residual scratch. -/
theorem hs_mid (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1 := by
  by_cases h1 : t.val % 4 = 3
  · rw [outsAt0_C m c t h0 h1]; rfl
  · rw [outsAt0_B m c t h0 h1]; rfl

/-- Later points of a block add their group to the accumulator. -/
theorem acc_mid (c : Dev nD) (t : Fin cfg0.N) (h0 : ¬t.val % 4 = 0) :
    (outsAt0 m c t.val t.isLt).2.2.2
      = k0_pay3 (outsAt0 m c t.val t.isLt).2.1 (iblk m c 4 t)
          (outsAt0 m c (t.val - 1) (Nat.lt_of_le_of_lt (Nat.sub_le _ _) t.isLt)).2.2.2 (iblk m c 5 t) := by
  rw [u_mid m c t h0]
  by_cases h1 : t.val % 4 = 3
  · rw [outsAt0_C m c t h0 h1]; frame_out
    simp only [read_unread_whole]
  · rw [outsAt0_B m c t h0 h1]; frame_out
    simp only [read_unread_whole]

/-- A block's last point writes out the final norm of residual plus feed-forward rows. -/
theorem out_last (c : Dev nD) (t : Fin cfg0.N) (h1 : t.val % 4 = 3) :
    (outsAt0 m c t.val t.isLt).1
      = k0_pay4 (outsAt0 m c t.val t.isLt).2.2.1 (outsAt0 m c t.val t.isLt).2.2.2 (iblk m c 6 t) := by
  have h0 : ¬t.val % 4 = 0 := by omega
  rw [hs_mid m c t h0, acc_mid m c t h0, u_mid m c t h0, outsAt0_C m c t h0 h1]; frame_out
  simp only [read_unread_whole]

/-- At each point the group's part is the group's share of the feed-forward block. -/
theorem pay3_row (c : Dev nD) (t : Fin cfg0.N) (s : Fin 4) (hs : (s : ℕ) = t.val % 4) (u : Vec Ideal S1024x1024 .bf16)
    (acc : Vec Ideal S1024x1024 .f32) (r d : Fin 1024) :
    k0_pay3 u (iblk m c 4 t) acc (iblk m c 5 t) (ix2 r d)
      = acc (ix2 r d) + group (fun e => u (ix2 r e)) (w1M m c) (w2M m c) s d := by
  rw [pay3_at, group]
  simp only [blk4 m c t s hs, blk5 m c t s hs]

/-- What the output block holds after a block's last point. -/
theorem out_at (c : Dev nD) (t : Fin cfg0.N) (h1 : t.val % 4 = 3) (b : Fin 2) (l : Fin 8320) (r d : Fin 1024)
    (hb : (b : ℕ) = t.val / 32) (hl : (l : ℕ) = 128 + t.val / 4 % 8 * 1024 + r) :
    (outsAt0 m c t.val t.isLt).1 (ix3 0 r d)
      = rms (tail l (hRow m c b l) (yRow m c b l) (wOut m c) (nW m c) (w1M m c) (w2M m c)) (fW m c) d := by
  have hN : t.val < 64 := lt_of_lt_of_eq t.isLt N_0
  obtain ⟨n, hn⟩ := t
  simp only at h1 hb hl hN ⊢
  have hn0 : n - 1 - 1 - 1 < cfg0.N := by omega
  have g0 : (n - 1 - 1 - 1) % 4 = 0 := by omega
  have U0 : ∀ e, (outsAt0 m c (n - 1 - 1 - 1) hn0).2.1 (ix2 r e) = uRow m c b l e := fun e => by
    rw [u_first m c ⟨n - 1 - 1 - 1, hn0⟩ g0 (by simp only; omega) r e, nBlk_eq, mixBlk_eq m c _ b l r (by simp only; omega) (by simp only; omega)]
  have H0 : ∀ e, (outsAt0 m c (n - 1 - 1 - 1) hn0).2.2.1 (ix2 r e) = mixRow m c b l e := fun e => by
    rw [hs_first m c ⟨n - 1 - 1 - 1, hn0⟩ g0 (by simp only; omega) r e, mixBlk_eq m c _ b l r (by simp only; omega) (by simp only; omega)]
  have A0 := acc_first m c ⟨n - 1 - 1 - 1, hn0⟩ g0 (by simp only; omega)
  have u1 := u_mid m c ⟨n - 1 - 1, by omega⟩ (by simp only; omega)
  have u2 := u_mid m c ⟨n - 1, by omega⟩ (by simp only; omega)
  have u3 := u_mid m c ⟨n, hn⟩ (by simp only; omega)
  have s1 := hs_mid m c ⟨n - 1 - 1, by omega⟩ (by simp only; omega)
  have s2 := hs_mid m c ⟨n - 1, by omega⟩ (by simp only; omega)
  have s3 := hs_mid m c ⟨n, hn⟩ (by simp only; omega)
  have a1 := acc_mid m c ⟨n - 1 - 1, by omega⟩ (by simp only; omega)
  have a2 := acc_mid m c ⟨n - 1, by omega⟩ (by simp only; omega)
  have a3 := acc_mid m c ⟨n, hn⟩ (by simp only; omega)
  have O := out_last m c ⟨n, hn⟩ h1
  simp only at A0 u1 u2 u3 s1 s2 s3 a1 a2 a3 O
  have hk : 112 ≤ (l : ℕ) := by omega
  have ACC : ∀ e, (outsAt0 m c n hn).2.2.2 (ix2 r e) = ffn (uRow m c b l) (w1M m c) (w2M m c) e := fun e => by
    rw [a3, pay3_row m c ⟨n, hn⟩ 3 (by simp only; omega), a2, pay3_row m c ⟨n - 1, by omega⟩ 2 (by simp only; omega), a1,
      pay3_row m c ⟨n - 1 - 1, by omega⟩ 1 (by simp only; omega), A0, pay3_row m c ⟨n - 1 - 1 - 1, hn0⟩ 0 (by simp only; omega),
      u3, u2, u1, pay2_at]
    simp only [U0]
    exact groups _ _ _ _
  rw [O, pay4_at]
  simp only [ACC, s3, s2, s1, H0, blk6]
  refine congrArg (fun x => rms x (fW m c) d) (funext fun e => ?_)
  rw [tail, keep_pos hk]

/-- What the result array holds after the run. -/
def OUT (c : Dev nD) : FVec Ideal S2x8192x1024 .f32 := fun i =>
  rms (tail (128 + (i 1 : ℕ)) (hRow m c (i 0) ⟨128 + (i 1 : ℕ), by have : (i 1 : ℕ) < 8192 := (i 1).isLt; omega⟩)
    (yRow m c (i 0) ⟨128 + (i 1 : ℕ), by have : (i 1 : ℕ) < 8192 := (i 1).isLt; omega⟩) (wOut m c) (nW m c) (w1M m c) (w2M m c)) (fW m c) (i 2)

theorem OUT_at (c : Dev nD) (b : Fin 2) (l : Fin 8320) (q : Fin 8192) (d : Fin 1024) (hl : (l : ℕ) = 128 + q) :
    OUT m c (ix3 b q d) = rms (tail l (hRow m c b l) (yRow m c b l) (wOut m c) (nW m c) (w1M m c) (w2M m c)) (fW m c) d := by
  obtain ⟨l, hl'⟩ := l
  obtain rfl : l = 128 + q := hl
  rfl

theorem final (c : Dev nD) : (dats m 0 c).arrAt 7 cfg0.N = OUT m c := by
  refine (dats m 0 c).arrAt_eq_of_covers 7 _ (by decide +kernel) fun t hf y => ?_
  have h1 := (flush0_7 t).mp hf
  have hN : t.val < 64 := lt_of_lt_of_eq t.isLt N_0
  blk_simp
  rw [after0_7]
  idx_vars y
  obtain rfl : y0 = 0 := Subsingleton.elim _ _
  have hy1 := y1.isLt
  refine (out_at m c t h1 ⟨t.val / 32, by omega⟩ ⟨128 + t.val / 4 % 8 * 1024 + y1, by omega⟩ y1 y2 rfl rfl).trans ?_
  refine (OUT_at m c ⟨t.val / 32, by omega⟩ ⟨128 + t.val / 4 % 8 * 1024 + y1, by omega⟩ ⟨t.val / 4 % 8 * 1024 + y1, by omega⟩ y2
    (by simp only; omega)).symm.trans ?_
  blk_ext [idx t]

end Cert.KernelIdeal.Value
-- ==== Proof.TailRef.lean ====
module
public import proofs.«01_k».proof.Proof.Gen.ReferenceIdeal.Run
public import proofs.«01_k».proof.Proof.TailMath
public import Idealize.ShloMosaic.Lib.Pointwise
public import Idealize.ShloMosaic.Lib.Claim
public import Idealize.ShloMosaic.Lib.WordCmp
@[expose] public section
/-! The last layer's end as the reference computes it: its whole-array stages, each read at one row. -/
set_option maxRecDepth 16384
noncomputable section
open Idealize.ShloMosaic Idealize.ShloMosaic.TcCoe Idealize.SL.Sem
namespace Cert.ReferenceIdeal.Value
open Cert.ReferenceIdeal Cert.ReferenceIdeal.Gen Cert.Tail

/-- One at the rows after the front padding, zero at the padded rows. -/
def keepV : FVec Ideal S1x8320x1 .f32 :=
  uitofp .f32 (broadcastInDim S1x8320x1 ![1] bcast_S8320_S1x8320x1_1 (cmpi .sge (iotaInDim S8320 32 0) (broadcastInDim S8320 ![] bcast_S_S8320 (constantI S_ 32 112#32))))

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

/-- The mixer's residual. -/
def mixV (Y : FVec Ideal S2x8320x1024 .bf16) (H : FVec Ideal S2x8320x1024 .f32) (WO : FVec Ideal S2x1024x1024 .f32) : FVec Ideal S2x8320x1024 .f32 :=
  addf H (mulf (broadcastInDim S2x8320x1024 ![0, 1, 2] bcast_S1x8320x1_S2x8320x1024_0_1_2 keepV) (Host.dotGeneral dot_S2x8320x1024_S1024x1024_S2x8320x1024_2_0_01_1_n_n none (extf .f32 Y bitsLt_bf16_f32) (shapeCast _ (extractStridedSlice S1x1024x1024 ![1, 0, 0] WO slices_S2x1024x1024_S1x1024x1024_1_0_0) shapeCasts_S1x1024x1024_S1024x1024)))

/-- The hidden units before their activation. -/
def hidV (U : FVec Ideal S2x8320x1024 .f32) (W1 : FVec Ideal S4x1024x4096 .f32) : FVec Ideal S2x8320x4096 .f32 :=
  maximumf (Host.dotGeneral dot_S2x8320x1024_S1024x4096_S2x8320x4096_2_0_01_1_n_n none U (shapeCast _ (extractStridedSlice S1x1024x4096 ![3, 0, 0] W1 slices_S4x1024x4096_S1x1024x4096_3_0_0) shapeCasts_S1x1024x4096_S1024x4096)) (broadcastInDim S2x8320x4096 ![] bcast_S_S2x8320x4096 (constant S_ .f32 0x00000000#32))

/-- The feed-forward residual. -/
def tailV (X : FVec Ideal S2x8320x1024 .f32) (A : FVec Ideal S2x8320x4096 .f32) (W2 : FVec Ideal S4x4096x1024 .f32) : FVec Ideal S2x8320x1024 .f32 :=
  addf X (mulf (broadcastInDim S2x8320x1024 ![0, 1, 2] bcast_S1x8320x1_S2x8320x1024_0_1_2 keepV) (Host.dotGeneral dot_S2x8320x4096_S4096x1024_S2x8320x1024_2_0_01_1_n_n none (mulf A A) (shapeCast _ (extractStridedSlice S1x4096x1024 ![3, 0, 0] W2 slices_S4x4096x1024_S1x4096x1024_3_0_0) shapeCasts_S1x4096x1024_S4096x1024)))

theorem keepV_mul (l : Fin 8320) (x : EReal) : keepV (ix3 0 l 0) * x = keep l x := by
  have hl := l.isLt
  pointwise [keepV]
  rw [WordCmp.cmpi_sge_ofNat (by omega) (by omega)]
  by_cases h : 112 ≤ (l : ℕ)
  · rw [keep, if_pos h, decide_eq_true h]
    have : (FloatOps.uitofp FTy.f32 (BitVec.ofBool true) : Ideal .f32) = (1 : EReal) := by
      simp [FloatOps.uitofp]
    rw [this, one_mul]
  · rw [keep, if_neg h, decide_eq_false h]
    have : (FloatOps.uitofp FTy.f32 (BitVec.ofBool false) : Ideal .f32) = (0 : EReal) := by
      simp [FloatOps.uitofp]
    rw [this, zero_mul]

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

theorem mixV_at (Y : FVec Ideal S2x8320x1024 .bf16) (H : FVec Ideal S2x8320x1024 .f32) (WO : FVec Ideal S2x1024x1024 .f32) (b : Fin 2) (l : Fin 8320)
    (d : Fin 1024) :
    mixV Y H WO (ix3 b l d) = mix l (fun e => H (ix3 b l e)) (fun e => Y (ix3 b l e)) (fun e d => WO (ix3 1 e d)) d := by
  rw [mix, ← keepV_mul]
  pointwise! [mixV]

theorem hidV_at (U : FVec Ideal S2x8320x1024 .f32) (W1 : FVec Ideal S4x1024x4096 .f32) (b : Fin 2) (l : Fin 8320) (j : Fin 4096) :
    hidV U W1 (ix3 b l j) = max (∑ e : Fin 1024, U (ix3 b l e) * W1 (ix3 3 e j)) 0 := by
  pointwise! [hidV]

theorem tailV_at (X : FVec Ideal S2x8320x1024 .f32) (A : FVec Ideal S2x8320x4096 .f32) (W2 : FVec Ideal S4x4096x1024 .f32) (b : Fin 2) (l : Fin 8320)
    (d : Fin 1024) :
    tailV X A W2 (ix3 b l d) = X (ix3 b l d) + keep l (∑ j : Fin 4096, A (ix3 b l j) * A (ix3 b l j) * W2 (ix3 3 j d)) := by
  rw [← keepV_mul]
  pointwise! [tailV]

variable (m : (ℓ : Loc nD τ sig) → Buf (Elt Ideal) ℓ)

/-- The reference's stream before the final norm. -/
def streamV (c : Dev nD) : FVec Ideal S2x8320x1024 .f32 :=
  let X := mixV (m ((c.tc : Thread nD τ).loc main_arg0)) (m ((c.tc : Thread nD τ).loc main_arg1)) (m ((c.tc : Thread nD τ).loc main_arg4))
  tailV X (hidV (rmsV X (shapeCast _ (extractStridedSlice S1x1024 ![3, 0] (m ((c.tc : Thread nD τ).loc main_arg2)) slices_S4x1024_S1x1024_3_0) shapeCasts_S1x1024_S1024)) (m ((c.tc : Thread nD τ).loc main_arg5))) (m ((c.tc : Thread nD τ).loc main_arg6))

theorem res_eq (c : Dev nD) : res_out0 m c
    = extractStridedSlice S2x8192x1024 ![0, 128, 0] (rmsV (streamV m c) (m ((c.tc : Thread nD τ).loc main_arg3))) slices_S2x8320x1024_S2x8192x1024_0_128_0 := rfl

theorem streamV_at (c : Dev nD) (b : Fin 2) (l : Fin 8320) (d : Fin 1024) :
    streamV m c (ix3 b l d)
      = tail l (fun k => m ((c.tc : Thread nD τ).loc main_arg1) (ix3 b l k)) (fun k => m ((c.tc : Thread nD τ).loc main_arg0) (ix3 b l k))
          (fun k d => m ((c.tc : Thread nD τ).loc main_arg4) (ix3 1 k d)) (fun k => m ((c.tc : Thread nD τ).loc main_arg2) (ix2 3 k))
          (fun e j => m ((c.tc : Thread nD τ).loc main_arg5) (ix3 3 e j)) (fun j d => m ((c.tc : Thread nD τ).loc main_arg6) (ix3 3 j d)) d := by
  rw [streamV, tailV_at, tail, ffn]
  simp only [hidV_at, rmsV_at, mixV_at, act]
  pointwise!

theorem res_at (c : Dev nD) (b : Fin 2) (q : Fin 8192) (l : Fin 8320) (d : Fin 1024) (hl : (l : ℕ) = 128 + q) :
    res_out0 m c (ix3 b q d)
      = rms (tail l (fun k => m ((c.tc : Thread nD τ).loc main_arg1) (ix3 b l k)) (fun k => m ((c.tc : Thread nD τ).loc main_arg0) (ix3 b l k))
          (fun k d => m ((c.tc : Thread nD τ).loc main_arg4) (ix3 1 k d)) (fun k => m ((c.tc : Thread nD τ).loc main_arg2) (ix2 3 k))
          (fun e j => m ((c.tc : Thread nD τ).loc main_arg5) (ix3 3 e j)) (fun j d => m ((c.tc : Thread nD τ).loc main_arg6) (ix3 3 j d)))
          (fun k => m ((c.tc : Thread nD τ).loc main_arg3) (ix1 k)) d := by
  obtain ⟨l, hl'⟩ := l
  obtain rfl : l = 128 + q := hl
  rw [res_eq]
  pointwise
  rw [rmsV_at]
  simp only [streamV_at]

end Cert.ReferenceIdeal.Value
-- ==== Proof.TailEq.lean ====
module
public import proofs.«01_k».proof.Proof.TailPoints
public import proofs.«01_k».proof.Proof.TailRef
@[expose] public section
/-! The last layer's end: the kernel's array is the reference's. -/
set_option maxRecDepth 16384
noncomputable section
open Idealize.ShloMosaic Idealize.ShloMosaic.TcCoe Idealize.SL.Sem
namespace Cert.Tail

/-- On memories that agree on the arguments, what the reference returns is what the kernel's run leaves. -/
theorem last_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)) :
    Cert.ReferenceIdeal.Value.res_main_v51 m' c = (Cert.KernelIdeal.Gen.dats m 0 c).arrAt 7 Cert.KernelIdeal.cfg0.N := by
  rw [Cert.KernelIdeal.Value.final m c]
  funext i
  obtain ⟨h0, h1, h2, h3, h4, h5, h6⟩ := h
  have hq : (i 1 : ℕ) < 8192 := (i 1).isLt
  rw [eq_ix3 i]
  refine (Cert.ReferenceIdeal.Value.res_at m' c (i 0) (i 1) ⟨128 + (i 1 : ℕ), by omega⟩ (i 2) rfl).trans ?_
  refine Eq.trans ?_ (Cert.KernelIdeal.Value.OUT_at m c (i 0) ⟨128 + (i 1 : ℕ), by omega⟩ (i 1) (i 2) rfl).symm
  rw [h0, h1, h2, h3, h4, h5, h6]

end Cert.Tail
-- ==== Proof.InnerBlocks.lean ====
module
public import proofs.«01_k».proof.Proof.Gen.Kernel2Ideal.Value
public import proofs.«01_k».proof.Proof.TailMath
public import Idealize.ShloMosaic.Lib.Pointwise
public import Idealize.ShloMosaic.Lib.Pipeline.ValueKit
public import Idealize.ShloMosaic.Lib.Claim
public import Idealize.ShloMosaic.Lib.WordCmp
@[expose] public section
/-! The end of an inner layer: where each window's block lies in its array, and what the body's expressions are at an index. -/
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Tail

/-! ## The body's expressions -/

theorem pay1_at (u : Vec Ideal S1040x1024 .bf16) (w1 : Vec Ideal S1x1024x1024 .bf16) (acc : Vec Ideal S1040x1024 .f32)
    (w2 : Vec Ideal S1x1024x1024 .bf16) (r : Fin 1040) (d : Fin 1024) :
    k0_pay1 u w1 acc w2 (ix2 r d)
      = acc (ix2 r d) + ∑ k : Fin 1024, act (fun e => u (ix2 r e)) (fun e => w1 (ix3 0 e k)) * w2 (ix3 0 k d) := by
  pointwise! [k0_pay1, act]

/-- The body's test of a row's position, block `n`, row `k`. -/
theorem word_at (n k : ℕ) (hn : n < 8) (hk : k < 1040) :
    IntOp.cmpi .sge (IntOp.addi (Scalar.muli (BitVec.ofNat 32 n) 1040#32) (BitVec.ofNat 32 k)) 112#32
      = if 112 ≤ n * 1040 + k then 1#1 else 0#1 :=
  WordCmp.cmpi_sge_mul_add_ofNat n 1040 k 112 (by omega) (by omega)

/-- What the body selects by that test. -/
theorem select_at (n k : ℕ) (hn : n < 8) (hk : k < 1040) (x : EReal) :
    Scalar.select (IntOp.cmpi .sge (IntOp.addi (Scalar.muli (BitVec.ofNat 32 n) 1040#32) (BitVec.ofNat 32 k)) 112#32) x 0
      = keep (n * 1040 + k) x := by
  rw [word_at n k hn hk, keep]
  split <;> rfl

theorem pay2_at (i : grid0.Coords) (hs acc : Vec Ideal S1040x1024 .f32) (r : Fin 1040) (d : Fin 1024) :
    k0_pay2 i hs acc (ix3 0 r d) = hs (ix2 r d) + keep (i 1 * 1040 + (r : ℕ)) (acc (ix2 r d)) := by
  pointwise [k0_pay2]
  rw [select_at _ _ (i 1).isLt r.isLt]

/-! ## The blocks -/

variable (m : (ℓ : Loc nD τ sig) → Buf (Elt Ideal) ℓ)

theorem idx : ∀ t : Fin cfg0.N, win0_0.index t = ![t.val / 32, t.val / 4 % 8, 0]
    ∧ win0_1.index t = ![0, 0, 0]
    ∧ win0_2.index t = ![t.val / 32, t.val / 4 % 8, 0]
    ∧ win0_3.index t = ![0, 0]
    ∧ win0_4.index t = ![0, 0, t.val % 4]
    ∧ win0_5.index t = ![0, t.val % 4, 0]
    ∧ win0_7.index t = ![t.val / 32, t.val / 4 % 8, 0]
    ∧ (grid0.coords t 1 : ℕ) = t.val / 4 % 8 :=
  (by decide +kernel : ∀ t : Fin grid0.N, _)

theorem blk0 (c : Dev nD) (t : Fin cfg0.N) (b : Fin 2) (l : Fin 8320) (r : Fin 1040) (k : Fin 1024) (hb : (b : ℕ) = t.val / 32)
    (hl : (l : ℕ) = t.val / 4 % 8 * 1040 + r) :
    iblk m c 0 t (ix3 0 r k) = m ((c : Thread nD τ).loc main_arg0) (ix3 b l k) := by
  blk_point [iblk, idx t]
theorem blk2 (c : Dev nD) (t : Fin cfg0.N) (b : Fin 2) (l : Fin 8320) (r : Fin 1040) (k : Fin 1024) (hb : (b : ℕ) = t.val / 32)
    (hl : (l : ℕ) = t.val / 4 % 8 * 1040 + r) :
    iblk m c 2 t (ix3 0 r k) = m ((c : Thread nD τ).loc main_arg1) (ix3 b l k) := by
  blk_point [iblk, idx t]
theorem blk1 (c : Dev nD) (t : Fin cfg0.N) (r k : Fin 1024) :
    iblk m c 1 t (ix3 0 r k) = m ((c : Thread nD τ).loc main_arg3) (ix3 0 r k) := by
  blk_point [iblk, idx t]
theorem blk3 (c : Dev nD) (t : Fin cfg0.N) (k : Fin 1024) :
    iblk m c 3 t (ix2 0 k) = m ((c : Thread nD τ).loc main_arg2) (ix2 0 k) := by
  blk_point [iblk, idx t]
theorem blk4 (c : Dev nD) (t : Fin cfg0.N) (s : Fin 4) (hs : (s : ℕ) = t.val % 4) (e k : Fin 1024) :
    iblk m c 4 t (ix3 0 e k) = m ((c : Thread nD τ).loc main_arg4) (ix3 0 e (unit s k)) := by
  have hj : ((unit s k : Fin 4096) : ℕ) = t.val % 4 * 1024 + k := by rw [← hs]; rfl
  blk_point [iblk, idx t]
theorem blk5 (c : Dev nD) (t : Fin cfg0.N) (s : Fin 4) (hs : (s : ℕ) = t.val % 4) (k d : Fin 1024) :
    iblk m c 5 t (ix3 0 k d) = m ((c : Thread nD τ).loc main_arg5) (ix3 0 (unit s k) d) := by
  have hj : ((unit s k : Fin 4096) : ℕ) = t.val % 4 * 1024 + k := by rw [← hs]; rfl
  blk_point [iblk, idx t]

/-! ## The rows of the arguments -/

/-- Row `l` of sequence `b` of the mixer's output. -/
abbrev yRow (c : Dev nD) (b : Fin 2) (l : Fin 8320) : Row := fun k => m ((c : Thread nD τ).loc main_arg0) (ix3 b l k)
/-- Row `l` of sequence `b` of the residual stream. -/
abbrev hRow (c : Dev nD) (b : Fin 2) (l : Fin 8320) : Row := fun k => m ((c : Thread nD τ).loc main_arg1) (ix3 b l k)
/-- The output projection of the layer. -/
abbrev wOut (c : Dev nD) : Fin 1024 → Row := fun k d => m ((c : Thread nD τ).loc main_arg3) (ix3 0 k d)
/-- The norm weights of the feed-forward block. -/
abbrev nW (c : Dev nD) : Row := fun k => m ((c : Thread nD τ).loc main_arg2) (ix2 0 k)
/-- The first feed-forward weights. -/
abbrev w1M (c : Dev nD) : Fin 1024 → Fin 4096 → EReal := fun e j => m ((c : Thread nD τ).loc main_arg4) (ix3 0 e j)
/-- The second feed-forward weights. -/
abbrev w2M (c : Dev nD) : Fin 4096 → Row := fun j d => m ((c : Thread nD τ).loc main_arg5) (ix3 0 j d)
/-- The row after the mixer's residual. -/
abbrev mixRow (c : Dev nD) (b : Fin 2) (l : Fin 8320) : Row := mix l (hRow m c b l) (yRow m c b l) (wOut m c)
/-- That row, normed. -/
abbrev uRow (c : Dev nD) (b : Fin 2) (l : Fin 8320) : Row := rms (mixRow m c b l) (nW m c)

end Cert.Kernel2Ideal.Value
-- ==== Proof.InnerPoints.lean ====
module
public import proofs.«01_k».proof.Proof.InnerBlocks
public import Idealize.ShloMosaic.Lib.Pipeline.ReadBack
@[expose] public section
/-! The end of an inner layer: what the scratch buffers and the output block hold after each grid point. -/
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Tail
variable (m : (ℓ : Loc nD τ sig) → Buf (Elt Ideal) ℓ)

/-- Row `q` of the residual block plus its projection, as the body computes it from its blocks. -/
def mixBlk (c : Dev nD) (t : Fin cfg0.N) (q : Fin 1040) : Row := fun d =>
  (show EReal from iblk m c 2 t (ix3 0 q d))
    + Scalar.select (IntOp.cmpi .sge (IntOp.addi (Scalar.muli (BitVec.ofNat 32 (grid0.coords t 1 : ℕ)) 1040#32) (BitVec.ofNat 32 (q : ℕ))) 112#32)
        (∑ k : Fin 1024, (show EReal from iblk m c 0 t (ix3 0 q k)) * (show EReal from iblk m c 1 t (ix3 0 k d))) (0 : EReal)

/-- The norm weights' block. -/
def nBlk (c : Dev nD) (t : Fin cfg0.N) : Row := fun d => iblk m c 3 t (ix2 0 d)

/-- That row, read from the arrays. -/
theorem mixBlk_eq (c : Dev nD) (t : Fin cfg0.N) (b : Fin 2) (l : Fin 8320) (q : Fin 1040)
    (hb : (b : ℕ) = t.val / 32) (hl : (l : ℕ) = t.val / 4 % 8 * 1040 + q) : mixBlk m c t q = mixRow m c b l := by
  funext d
  rw [mixRow, mix, mixBlk, select_at _ _ (grid0.coords t 1).isLt q.isLt, (idx t).2.2.2.2.2.2.2, ← hl]
  simp only [blk0 m c t b l q _ hb hl, blk1, blk2 m c t b l q _ hb hl]

theorem nBlk_eq (c : Dev nD) (t : Fin cfg0.N) : nBlk m c t = nW m c := funext fun d => blk3 m c t d

/-- At a first point the residual scratch holds the rows after the mixer. -/
theorem hs_first (c : Dev nD) (t : Fin cfg0.N) (g0 : t.val % 4 = 0) (g1 : ¬t.val % 4 = 3) (r : Fin 1040) (d : Fin 1024) :
    (outsAt0 m c t.val t.isLt).2.2.1 (ix2 r d) = mixBlk m c t r d := by
  rw [outsAt0_A m c t g0 g1]; frame_out
  canon_tiles x h
  all_goals
    idx_vars x
    obtain rfl : x1 = d := (Fin.ext h1).symm
    open_payloads
    pointwise
    refine Eq.trans (b := mixBlk m c t ⟨_, _⟩ x1) rfl (congrArg (fun q => mixBlk m c t q x1) (Fin.ext h0.symm))

/-- There the normed scratch holds those rows, normed. -/
theorem u_first (c : Dev nD) (t : Fin cfg0.N) (g0 : t.val % 4 = 0) (g1 : ¬t.val % 4 = 3) (r : Fin 1040) (d : Fin 1024) :
    (outsAt0 m c t.val t.isLt).2.1 (ix2 r d) = rms (mixBlk m c t r) (nBlk m c t) d := by
  rw [outsAt0_A m c t g0 g1]; frame_out
  canon_tiles x h
  all_goals
    idx_vars x
    obtain rfl : x1 = d := (Fin.ext h1).symm
    open_payloads
    pointwise
    refine Eq.trans (b := rms (mixBlk m c t ⟨_, _⟩) (nBlk m c t) x1) rfl (congrArg (fun q => rms (mixBlk m c t q) (nBlk m c t) x1) (Fin.ext h0.symm))

/-- There the accumulator is the first group's part, from the normed scratch. -/
theorem acc_first (c : Dev nD) (t : Fin cfg0.N) (h0 : t.val % 4 = 0) (h1 : ¬t.val % 4 = 3) :
    (outsAt0 m c t.val t.isLt).2.2.2
      = k0_pay1 (outsAt0 m c t.val t.isLt).2.1 (iblk m c 4 t) (k0_pay21 (F := Ideal)) (iblk m c 5 t) := by
  rw [outsAt0_A m c t h0 h1]; frame_out
  rw [View.readCov_eq_canon']
  refine congrArg (fun u => k0_pay1 u (iblk m c 4 t) (k0_pay21 (F := Ideal)) (iblk m c 5 t)) (funext fun j => congrArg _ ?_)
  funext a
  fin_cases a
  · exact Fin.ext (by show 0 + 1 * (j 0 : ℕ) = _; rw [zero_add, one_mul]; rfl)
  · exact Fin.ext (by show 0 + 1 * (j 1 : ℕ) = _; rw [zero_add, one_mul]; rfl)

/-- Later points of a block keep the normed scratch. -/
theorem u_mid (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

/-- Later points of a block keep the residual scratch. -/
theorem hs_mid (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1 := by
  by_cases h1 : t.val % 4 = 3
  · rw [outsAt0_C m c t h0 h1]; rfl
  · rw [outsAt0_B m c t h0 h1]; rfl

/-- Later points of a block add their group to the accumulator. -/
theorem acc_mid (c : Dev nD) (t : Fin cfg0.N) (h0 : ¬t.val % 4 = 0) :
    (outsAt0 m c t.val t.isLt).2.2.2
      = k0_pay1 (outsAt0 m c t.val t.isLt).2.1 (iblk m c 4 t)
          (outsAt0 m c (t.val - 1) (Nat.lt_of_le_of_lt (Nat.sub_le _ _) t.isLt)).2.2.2 (iblk m c 5 t) := by
  rw [u_mid m c t h0]
  by_cases h1 : t.val % 4 = 3
  · rw [outsAt0_C m c t h0 h1]; frame_out
    simp only [read_unread_whole]
  · rw [outsAt0_B m c t h0 h1]; frame_out
    simp only [read_unread_whole]

/-- A block's last point writes out the residual plus the kept feed-forward rows. -/
theorem out_last (c : Dev nD) (t : Fin cfg0.N) (h1 : t.val % 4 = 3) :
    (outsAt0 m c t.val t.isLt).1
      = k0_pay2 (grid0.coords t) (outsAt0 m c t.val t.isLt).2.2.1 (outsAt0 m c t.val t.isLt).2.2.2 := by
  have h0 : ¬t.val % 4 = 0 := by omega
  rw [hs_mid m c t h0, acc_mid m c t h0, u_mid m c t h0, outsAt0_C m c t h0 h1]; frame_out
  simp only [read_unread_whole]

/-- At each point the group's part is the group's share of the feed-forward block. -/
theorem pay1_row (c : Dev nD) (t : Fin cfg0.N) (s : Fin 4) (hs : (s : ℕ) = t.val % 4) (u : Vec Ideal S1040x1024 .bf16)
    (acc : Vec Ideal S1040x1024 .f32) (r : Fin 1040) (d : Fin 1024) :
    k0_pay1 u (iblk m c 4 t) acc (iblk m c 5 t) (ix2 r d)
      = acc (ix2 r d) + group (fun e => u (ix2 r e)) (w1M m c) (w2M m c) s d := by
  rw [pay1_at, group]
  simp only [blk4 m c t s hs, blk5 m c t s hs]

theorem pay21_at (j : S1040x1024.Idx) : k0_pay21 (F := Ideal) j = 0 := by pointwise [k0_pay21]

/-- What the output block holds after a block's last point. -/
theorem out_at (c : Dev nD) (t : Fin cfg0.N) (h1 : t.val % 4 = 3) (b : Fin 2) (l : Fin 8320) (r : Fin 1040) (d : Fin 1024)
    (hb : (b : ℕ) = t.val / 32) (hl : (l : ℕ) = t.val / 4 % 8 * 1040 + r) :
    (outsAt0 m c t.val t.isLt).1 (ix3 0 r d)
      = tail l (hRow m c b l) (yRow m c b l) (wOut m c) (nW m c) (w1M m c) (w2M m c) d := by
  have hN : t.val < 64 := lt_of_lt_of_eq t.isLt N_0
  obtain ⟨n, hn⟩ := t
  simp only at h1 hb hl hN ⊢
  have hn0 : n - 1 - 1 - 1 < cfg0.N := by omega
  have g0 : (n - 1 - 1 - 1) % 4 = 0 := by omega
  have U0 : ∀ e, (outsAt0 m c (n - 1 - 1 - 1) hn0).2.1 (ix2 r e) = uRow m c b l e := fun e => by
    rw [u_first m c ⟨n - 1 - 1 - 1, hn0⟩ g0 (by simp only; omega) r e, nBlk_eq, mixBlk_eq m c _ b l r (by simp only; omega) (by simp only; omega)]
  have H0 : ∀ e, (outsAt0 m c (n - 1 - 1 - 1) hn0).2.2.1 (ix2 r e) = mixRow m c b l e := fun e => by
    rw [hs_first m c ⟨n - 1 - 1 - 1, hn0⟩ g0 (by simp only; omega) r e, mixBlk_eq m c _ b l r (by simp only; omega) (by simp only; omega)]
  have A0 := acc_first m c ⟨n - 1 - 1 - 1, hn0⟩ g0 (by simp only; omega)
  have u1 := u_mid m c ⟨n - 1 - 1, by omega⟩ (by simp only; omega)
  have u2 := u_mid m c ⟨n - 1, by omega⟩ (by simp only; omega)
  have u3 := u_mid m c ⟨n, hn⟩ (by simp only; omega)
  have s1 := hs_mid m c ⟨n - 1 - 1, by omega⟩ (by simp only; omega)
  have s2 := hs_mid m c ⟨n - 1, by omega⟩ (by simp only; omega)
  have s3 := hs_mid m c ⟨n, hn⟩ (by simp only; omega)
  have a1 := acc_mid m c ⟨n - 1 - 1, by omega⟩ (by simp only; omega)
  have a2 := acc_mid m c ⟨n - 1, by omega⟩ (by simp only; omega)
  have a3 := acc_mid m c ⟨n, hn⟩ (by simp only; omega)
  have O := out_last m c ⟨n, hn⟩ h1
  simp only at A0 u1 u2 u3 s1 s2 s3 a1 a2 a3 O
  have ACC : ∀ e, (outsAt0 m c n hn).2.2.2 (ix2 r e) = ffn (uRow m c b l) (w1M m c) (w2M m c) e := fun e => by
    rw [a3, pay1_row m c ⟨n, hn⟩ 3 (by simp only; omega), a2, pay1_row m c ⟨n - 1, by omega⟩ 2 (by simp only; omega), a1,
      pay1_row m c ⟨n - 1 - 1, by omega⟩ 1 (by simp only; omega), A0, pay1_row m c ⟨n - 1 - 1 - 1, hn0⟩ 0 (by simp only; omega),
      u3, u2, u1, pay21_at]
    simp only [U0]
    exact groups _ _ _ _
  rw [O, pay2_at]
  simp only [ACC, s3, s2, s1, H0]
  rw [tail, (idx ⟨n, hn⟩).2.2.2.2.2.2.2]
  simp only [← hl]

/-- What the result array holds after the run. -/
def OUT (c : Dev nD) : FVec Ideal S2x8320x1024 .f32 := fun i =>
  tail (i 1 : ℕ) (hRow m c (i 0) (i 1)) (yRow m c (i 0) (i 1)) (wOut m c) (nW m c) (w1M m c) (w2M m c) (i 2)

theorem final (c : Dev nD) : (dats m 0 c).arrAt 7 cfg0.N = OUT m c := by
  refine (dats m 0 c).arrAt_eq_of_covers 7 _ (by decide +kernel) fun t hf y => ?_
  have h1 := (flush0_7 t).mp hf
  have hN : t.val < 64 := lt_of_lt_of_eq t.isLt N_0
  blk_simp
  rw [after0_7]
  idx_vars y
  obtain rfl : y0 = 0 := Subsingleton.elim _ _
  have hy1 := y1.isLt
  refine (out_at m c t h1 ⟨t.val / 32, by omega⟩ ⟨t.val / 4 % 8 * 1040 + y1, by omega⟩ y1 y2 rfl rfl).trans ?_
  show OUT m c (ix3 (⟨t.val / 32, by omega⟩ : Fin 2) (⟨t.val / 4 % 8 * 1040 + y1, by omega⟩ : Fin 8320) y2) = _
  blk_ext [idx t]

end Cert.Kernel2Ideal.Value
-- ==== Proof.InnerRef.lean ====
module
public import proofs.«01_k».proof.Proof.Gen.Reference2Ideal.Run
public import proofs.«01_k».proof.Proof.TailMath
public import Idealize.ShloMosaic.Lib.Pointwise
public import Idealize.ShloMosaic.Lib.Claim
public import Idealize.ShloMosaic.Lib.WordCmp
@[expose] public section
/-! The end of an inner layer as the reference computes it: its whole-array stages, each read at one row. -/
set_option maxRecDepth 16384
noncomputable section
open Idealize.ShloMosaic Idealize.ShloMosaic.TcCoe Idealize.SL.Sem
namespace Cert.Reference2Ideal.Value
open Cert.Reference2Ideal Cert.Reference2Ideal.Gen Cert.Tail

/-- One at the rows after the front padding, zero at the padded rows. -/
def keepV : FVec Ideal S1x8320x1 .f32 :=
  uitofp .f32 (broadcastInDim S1x8320x1 ![1] bcast_S8320_S1x8320x1_1 (cmpi .sge (iotaInDim S8320 32 0) (broadcastInDim S8320 ![] bcast_S_S8320 (constantI S_ 32 112#32))))

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

/-- The mixer's residual. -/
def mixV (Y : FVec Ideal S2x8320x1024 .bf16) (H : FVec Ideal S2x8320x1024 .f32) (WO : FVec Ideal S2x1024x1024 .f32) : FVec Ideal S2x8320x1024 .f32 :=
  addf H (mulf (broadcastInDim S2x8320x1024 ![0, 1, 2] bcast_S1x8320x1_S2x8320x1024_0_1_2 keepV) (Host.dotGeneral dot_S2x8320x1024_S1024x1024_S2x8320x1024_2_0_01_1_n_n none (extf .f32 Y bitsLt_bf16_f32) (shapeCast _ (extractStridedSlice S1x1024x1024 ![0, 0, 0] WO slices_S2x1024x1024_S1x1024x1024_0_0_0) shapeCasts_S1x1024x1024_S1024x1024)))

/-- The hidden units before their activation. -/
def hidV (U : FVec Ideal S2x8320x1024 .f32) (W1 : FVec Ideal S4x1024x4096 .f32) : FVec Ideal S2x8320x4096 .f32 :=
  maximumf (Host.dotGeneral dot_S2x8320x1024_S1024x4096_S2x8320x4096_2_0_01_1_n_n none U (shapeCast _ (extractStridedSlice S1x1024x4096 ![0, 0, 0] W1 slices_S4x1024x4096_S1x1024x4096_0_0_0) shapeCasts_S1x1024x4096_S1024x4096)) (broadcastInDim S2x8320x4096 ![] bcast_S_S2x8320x4096 (constant S_ .f32 0x00000000#32))

/-- The feed-forward residual. -/
def tailV (X : FVec Ideal S2x8320x1024 .f32) (A : FVec Ideal S2x8320x4096 .f32) (W2 : FVec Ideal S4x4096x1024 .f32) : FVec Ideal S2x8320x1024 .f32 :=
  addf X (mulf (broadcastInDim S2x8320x1024 ![0, 1, 2] bcast_S1x8320x1_S2x8320x1024_0_1_2 keepV) (Host.dotGeneral dot_S2x8320x4096_S4096x1024_S2x8320x1024_2_0_01_1_n_n none (mulf A A) (shapeCast _ (extractStridedSlice S1x4096x1024 ![0, 0, 0] W2 slices_S4x4096x1024_S1x4096x1024_0_0_0) shapeCasts_S1x4096x1024_S4096x1024)))

theorem keepV_mul (l : Fin 8320) (x : EReal) : keepV (ix3 0 l 0) * x = keep l x := by
  have hl := l.isLt
  pointwise [keepV]
  rw [WordCmp.cmpi_sge_ofNat (by omega) (by omega)]
  by_cases h : 112 ≤ (l : ℕ)
  · rw [keep, if_pos h, decide_eq_true h]
    have : (FloatOps.uitofp FTy.f32 (BitVec.ofBool true) : Ideal .f32) = (1 : EReal) := by
      simp [FloatOps.uitofp]
    rw [this, one_mul]
  · rw [keep, if_neg h, decide_eq_false h]
    have : (FloatOps.uitofp FTy.f32 (BitVec.ofBool false) : Ideal .f32) = (0 : EReal) := by
      simp [FloatOps.uitofp]
    rw [this, zero_mul]

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

theorem mixV_at (Y : FVec Ideal S2x8320x1024 .bf16) (H : FVec Ideal S2x8320x1024 .f32) (WO : FVec Ideal S2x1024x1024 .f32) (b : Fin 2) (l : Fin 8320)
    (d : Fin 1024) :
    mixV Y H WO (ix3 b l d) = mix l (fun e => H (ix3 b l e)) (fun e => Y (ix3 b l e)) (fun e d => WO (ix3 0 e d)) d := by
  rw [mix, ← keepV_mul]
  pointwise! [mixV]

theorem hidV_at (U : FVec Ideal S2x8320x1024 .f32) (W1 : FVec Ideal S4x1024x4096 .f32) (b : Fin 2) (l : Fin 8320) (j : Fin 4096) :
    hidV U W1 (ix3 b l j) = max (∑ e : Fin 1024, U (ix3 b l e) * W1 (ix3 0 e j)) 0 := by
  pointwise! [hidV]

theorem tailV_at (X : FVec Ideal S2x8320x1024 .f32) (A : FVec Ideal S2x8320x4096 .f32) (W2 : FVec Ideal S4x4096x1024 .f32) (b : Fin 2) (l : Fin 8320)
    (d : Fin 1024) :
    tailV X A W2 (ix3 b l d) = X (ix3 b l d) + keep l (∑ j : Fin 4096, A (ix3 b l j) * A (ix3 b l j) * W2 (ix3 0 j d)) := by
  rw [← keepV_mul]
  pointwise! [tailV]

variable (m : (ℓ : Loc nD τ sig) → Buf (Elt Ideal) ℓ)

/-- The reference's stream after the layer. -/
def streamV (c : Dev nD) : FVec Ideal S2x8320x1024 .f32 :=
  let X := mixV (m ((c.tc : Thread nD τ).loc main_arg0)) (m ((c.tc : Thread nD τ).loc main_arg1)) (m ((c.tc : Thread nD τ).loc main_arg3))
  tailV X (hidV (rmsV X (shapeCast _ (extractStridedSlice S1x1024 ![0, 0] (m ((c.tc : Thread nD τ).loc main_arg2)) slices_S4x1024_S1x1024_0_0) shapeCasts_S1x1024_S1024)) (m ((c.tc : Thread nD τ).loc main_arg4))) (m ((c.tc : Thread nD τ).loc main_arg5))

theorem res_eq (c : Dev nD) : res_out0 m c = streamV m c := rfl

theorem streamV_at (c : Dev nD) (b : Fin 2) (l : Fin 8320) (d : Fin 1024) :
    streamV m c (ix3 b l d)
      = tail l (fun k => m ((c.tc : Thread nD τ).loc main_arg1) (ix3 b l k)) (fun k => m ((c.tc : Thread nD τ).loc main_arg0) (ix3 b l k))
          (fun k d => m ((c.tc : Thread nD τ).loc main_arg3) (ix3 0 k d)) (fun k => m ((c.tc : Thread nD τ).loc main_arg2) (ix2 0 k))
          (fun e j => m ((c.tc : Thread nD τ).loc main_arg4) (ix3 0 e j)) (fun j d => m ((c.tc : Thread nD τ).loc main_arg5) (ix3 0 j d)) d := by
  rw [streamV, tailV_at, tail, ffn]
  simp only [hidV_at, rmsV_at, mixV_at, act]
  pointwise!

end Cert.Reference2Ideal.Value
-- ==== Proof.InnerEq.lean ====
module
public import proofs.«01_k».proof.Proof.InnerPoints
public import proofs.«01_k».proof.Proof.InnerRef
@[expose] public section
/-! The end of an inner layer: the kernel's array is the reference's. -/
set_option maxRecDepth 16384
noncomputable section
open Idealize.ShloMosaic Idealize.ShloMosaic.TcCoe Idealize.SL.Sem
namespace Cert.Tail

/-- On memories that agree on the arguments, what the reference returns is what the kernel's run leaves. -/
theorem inner_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' (c.tc.loc Cert.Reference2Ideal.main_arg0) = m (c.tc.loc Cert.Kernel2Ideal.main_arg0)
      ∧ m' (c.tc.loc Cert.Reference2Ideal.main_arg1) = m (c.tc.loc Cert.Kernel2Ideal.main_arg1)
      ∧ m' (c.tc.loc Cert.Reference2Ideal.main_arg2) = m (c.tc.loc Cert.Kernel2Ideal.main_arg2)
      ∧ m' (c.tc.loc Cert.Reference2Ideal.main_arg3) = m (c.tc.loc Cert.Kernel2Ideal.main_arg3)
      ∧ m' (c.tc.loc Cert.Reference2Ideal.main_arg4) = m (c.tc.loc Cert.Kernel2Ideal.main_arg4)
      ∧ m' (c.tc.loc Cert.Reference2Ideal.main_arg5) = m (c.tc.loc Cert.Kernel2Ideal.main_arg5)) :
    Cert.Reference2Ideal.Value.res_out0 m' c = (Cert.Kernel2Ideal.Gen.dats m 0 c).arrAt 7 Cert.Kernel2Ideal.cfg0.N := by
  rw [Cert.Kernel2Ideal.Value.final m c]
  funext i
  obtain ⟨h0, h1, h2, h3, h4, h5⟩ := h
  rw [eq_ix3 i, Cert.Reference2Ideal.Value.res_eq]
  refine (Cert.Reference2Ideal.Value.streamV_at m' c (i 0) (i 1) (i 2)).trans ?_
  rw [h0, h1, h2, h3, h4, h5]
  rfl

end Cert.Tail
-- ==== Proof.ProjMath.lean ====
module
public import proofs.«01_k».proof.Proof.TailMath
@[expose] public section
/-! A mixer's input projection, one row at a time. -/
noncomputable section
open Idealize.ShloMosaic Idealize.ShloMosaic.TcCoe Idealize.SL.Sem
namespace Cert.Tail

/-- The normed row `h` times one column of the weights. -/
def proj (h nw w : Row) : EReal := ∑ e : Fin 1024, rms h nw e * w e

end Cert.Tail
-- ==== Proof.DnProj.lean ====
module
public import proofs.«01_k».proof.Proof.Gen.Kernel3Ideal.Value
public import proofs.«01_k».proof.Proof.ProjMath
public import Idealize.ShloMosaic.Lib.Pointwise
public import Idealize.ShloMosaic.Lib.Pipeline.ValueKit
public import Idealize.ShloMosaic.Lib.Pipeline.ReadBack
public import Idealize.ShloMosaic.Lib.Claim
@[expose] public section
/-! The gated DeltaNet's input projection: the blocks, the normed rows the scratch holds, and the result array. -/
set_option maxRecDepth 16384
noncomputable section
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Tail

theorem pay1_at (h : Vec Ideal S1x2080x1024 .f32) (w : Vec Ideal S1x1024 .f32) (r : Fin 2080) (d : Fin 1024) :
    k0_pay1 h w (ix2 r d) = rms (fun e => h (ix3 0 r e)) (fun e => w (ix2 0 e)) d := by
  pointwise! [k0_pay1, rms]

theorem pay3_at (u : Vec Ideal S2080x1024 .bf16) (w : Vec Ideal S1x1024x1408 .bf16) (r : Fin 2080) (k : Fin 1408) :
    k0_pay3 u w (ix3 0 r k) = ∑ e : Fin 1024, u (ix2 r e) * w (ix3 0 e k) := by
  pointwise! [k0_pay3, k0_pay2]

theorem pay4_at (u : Vec Ideal S2080x1024 .bf16) (w : Vec Ideal S1x1024x1408 .bf16) (r : Fin 2080) (k : Fin 128) :
    k0_pay4 u w (ix3 0 r k) = ∑ e : Fin 1024, u (ix2 r e) * w (ix3 0 e (⟨1280 + k, by omega⟩ : Fin 1408)) := by
  pointwise! [k0_pay4, k0_pay2]

variable (m : (ℓ : Loc nD τ sig) → Buf (Elt Ideal) ℓ)

theorem idx : ∀ t : Fin cfg0.N, win0_0.index t = ![t.val / 12, t.val / 3 % 4, 0]
    ∧ win0_1.index t = ![0, 0]
    ∧ win0_2.index t = ![0, 0, t.val % 3]
    ∧ win0_3.index t = ![t.val / 12, t.val / 3 % 4, t.val % 3]
    ∧ win0_4.index t = ![t.val / 12, t.val / 3 % 4, 0] :=
  (by decide +kernel : ∀ t : Fin grid0.N, _)

theorem blk0 (c : Dev nD) (t : Fin cfg0.N) (b : Fin 2) (l : Fin 8320) (r : Fin 2080) (k : Fin 1024) (hb : (b : ℕ) = t.val / 12)
    (hl : (l : ℕ) = t.val / 3 % 4 * 2080 + r) :
    iblk m c 0 t (ix3 0 r k) = m ((c : Thread nD τ).loc main_arg0) (ix3 b l k) := by
  blk_point [iblk, idx t]
theorem blk1 (c : Dev nD) (t : Fin cfg0.N) (k : Fin 1024) :
    iblk m c 1 t (ix2 0 k) = m ((c : Thread nD τ).loc main_arg1) (ix2 0 k) := by
  blk_point [iblk, idx t]
/-- Entry `e`, `j` of the padded weights. -/
def wPad (c : Dev nD) (e : Fin 1024) (j : Fin 4224) : EReal :=
  if h : (j : ℕ) < 4112 then m ((c : Thread nD τ).loc main_arg2) (ix3 0 e (⟨j, h⟩ : Fin 4112)) else 0

theorem weights_eq (c : Dev nD) : V m c main_v2
    = truncf .bf16 (concatenate S2x1024x4224 2 [⟨S2x1024x4112, m ((c : Thread nD τ).loc main_arg2)⟩,
        ⟨S2x1024x112, broadcastInDim S2x1024x112 ![] bcast_S_S2x1024x112 (constant (F := Ideal) S_ .f32 0x00000000#32)⟩] concatenates_S2x1024x4112_S2x1024x112_S2x1024x4224_d2) bitsLt_bf16_f32 := by
  simp only [V, hostOps0, List.flatten_cons, List.flatten_nil, List.append_nil, List.cons_append, List.nil_append]
  after_results <;> rfl

theorem blk2 (c : Dev nD) (t : Fin cfg0.N) (e : Fin 1024) (k : Fin 1408) (j : Fin 4224) (hj : (j : ℕ) = t.val % 3 * 1408 + k) :
    iblk m c 2 t (ix3 0 e k) = wPad m c e j := by
  have q : iblk m c 2 t (ix3 0 e k) = V m c main_v2 (ix3 0 e j) := by
    blk_simp [iblk]
    refine congrArg _ (funext fun a => Fin.ext ?_)
    fin_cases a
    · show win0_2.index t 0 * 1 + 1 * 0 = 0
      rw [(idx t).2.2.1]; rfl
    · show win0_2.index t 1 * 1024 + 1 * (e : ℕ) = (e : ℕ)
      rw [(idx t).2.2.1, one_mul]; simp
    · show win0_2.index t 2 * 1408 + 1 * (k : ℕ) = (j : ℕ)
      rw [(idx t).2.2.1, hj, one_mul]; rfl
  rw [q, weights_eq, wPad]
  pointwise

/-- Row `l` of sequence `b` of the residual stream. -/
abbrev hRow (c : Dev nD) (b : Fin 2) (l : Fin 8320) : Row := fun k => m ((c : Thread nD τ).loc main_arg0) (ix3 b l k)
/-- The norm's weights. -/
abbrev nW (c : Dev nD) : Row := fun k => m ((c : Thread nD τ).loc main_arg1) (ix2 0 k)

/-- The body's normed row, read from its blocks. -/
theorem pay1_row (c : Dev nD) (t : Fin cfg0.N) (b : Fin 2) (l : Fin 8320) (r : Fin 2080) (d : Fin 1024) (hb : (b : ℕ) = t.val / 12)
    (hl : (l : ℕ) = t.val / 3 % 4 * 2080 + r) :
    k0_pay1 (iblk m c 0 t) (iblk m c 1 t) (ix2 r d) = rms (hRow m c b l) (nW m c) d := by
  rw [pay1_at]
  simp only [blk0 m c t b l r _ hb hl, blk1]

/-- A block's first point norms its rows into the scratch. -/
theorem u_first (c : Dev nD) (t : Fin cfg0.N) (h0 : t.val % 3 = 0) :
    (outsAt0 m c t.val t.isLt).2.2 = k0_pay1 (iblk m c 0 t) (iblk m c 1 t) := by
  rw [outsAt0_A m c t h0 (by omega)]; frame_out

/-- Its later points keep the scratch. -/
theorem u_mid (c : Dev nD) (t : Fin cfg0.N) (h0 : ¬t.val % 3 = 0) :
    (outsAt0 m c t.val t.isLt).2.2 = (outsAt0 m c (t.val - 1) (Nat.lt_of_le_of_lt (Nat.sub_le _ _) t.isLt)).2.2 := by
  by_cases h1 : t.val % 3 = 2
  · rw [outsAt0_C m c t h0 h1]; rfl
  · rw [outsAt0_B m c t h0 h1]; rfl

/-- Every point multiplies what the scratch holds by its columns of the weights. -/
theorem out_eq (c : Dev nD) (t : Fin cfg0.N) :
    (outsAt0 m c t.val t.isLt).1 = k0_pay3 (outsAt0 m c t.val t.isLt).2.2 (iblk m c 2 t) := by
  by_cases h0 : t.val % 3 = 0
  · rw [u_first m c t h0, outsAt0_A m c t h0 (by omega)]; frame_out
  · rw [u_mid m c t h0]
    by_cases h1 : t.val % 3 = 2
    · rw [outsAt0_C m c t h0 h1]; frame_out
      simp only [read_unread_whole]
    · rw [outsAt0_B m c t h0 h1]; frame_out
      simp only [read_unread_whole]

/-- A block's last point also writes the last columns of its product. -/
theorem small_eq (c : Dev nD) (t : Fin cfg0.N) (h1 : t.val % 3 = 2) :
    (outsAt0 m c t.val t.isLt).2.1 = k0_pay4 (outsAt0 m c t.val t.isLt).2.2 (iblk m c 2 t) := by
  have h0 : ¬t.val % 3 = 0 := by omega
  rw [u_mid m c t h0, outsAt0_C m c t h0 h1]; frame_out
  simp only [read_unread_whole]

/-- At every point the scratch holds the block's rows, normed. -/
theorem u_at (c : Dev nD) (r : Fin 2080) (d : Fin 1024) (b : Fin 2) (l : Fin 8320) :
    ∀ (n : ℕ) (hn : n < cfg0.N), (b : ℕ) = n / 12 → (l : ℕ) = n / 3 % 4 * 2080 + r →
      (outsAt0 m c n hn).2.2 (ix2 r d) = rms (hRow m c b l) (nW m c) d := by
  intro n
  induction n with
  | zero =>
    intro hn hb hl
    rw [u_first m c ⟨0, hn⟩ (by simp only), pay1_row m c ⟨0, hn⟩ b l r d hb hl]
  | succ k ih =>
    intro hn hb hl
    by_cases h0 : (k + 1) % 3 = 0
    · rw [u_first m c ⟨k + 1, hn⟩ h0, pay1_row m c ⟨k + 1, hn⟩ b l r d hb hl]
    · have e := u_mid m c ⟨k + 1, hn⟩ h0
      simp only [Nat.add_sub_cancel] at e
      rw [e]
      exact ih (by omega) (by omega) (by omega)

/-- What the first result holds after the run. -/
def OUT (c : Dev nD) : FVec Ideal S2x8320x4224 .bf16 := fun i =>
  proj (hRow m c (i 0) (i 1)) (nW m c) (fun e => wPad m c e (i 2))

/-- What the second result holds after the run: the last columns once more. -/
def SMALL (c : Dev nD) : FVec Ideal S2x8320x128 .f32 := fun i =>
  proj (hRow m c (i 0) (i 1)) (nW m c) (fun e => wPad m c e ⟨4096 + (i 2 : ℕ), by have : (i 2 : ℕ) < 128 := (i 2).isLt; omega⟩)

theorem final (c : Dev nD) : (dats m 0 c).arrAt 3 cfg0.N = OUT m c := by
  refine (dats m 0 c).arrAt_eq_of_covers 3 _ (by decide +kernel) fun t hf y => ?_
  have hN : t.val < 24 := lt_of_lt_of_eq t.isLt N_0
  blk_simp
  rw [after0_3]
  idx_vars y
  obtain rfl : y0 = 0 := Subsingleton.elim _ _
  have hy1 := y1.isLt
  have hy2 := y2.isLt
  rw [out_eq, pay3_at]
  simp only [u_at m c y1 _ ⟨t.val / 12, by omega⟩ ⟨t.val / 3 % 4 * 2080 + y1, by omega⟩ t.val t.isLt rfl rfl,
    blk2 m c t _ y2 ⟨t.val % 3 * 1408 + y2, by omega⟩ rfl]
  show OUT m c (ix3 (⟨t.val / 12, by omega⟩ : Fin 2) (⟨t.val / 3 % 4 * 2080 + y1, by omega⟩ : Fin 8320) (⟨t.val % 3 * 1408 + y2, by omega⟩ : Fin 4224)) = _
  blk_ext [idx t]

theorem final_small (c : Dev nD) : (dats m 0 c).arrAt 4 cfg0.N = SMALL m c := by
  refine (dats m 0 c).arrAt_eq_of_covers 4 _ (by decide +kernel) fun t hf y => ?_
  have hN : t.val < 24 := lt_of_lt_of_eq t.isLt N_0
  have h1 := (flush0_4 t).mp hf
  blk_simp
  rw [after0_4]
  idx_vars y
  obtain rfl : y0 = 0 := Subsingleton.elim _ _
  have hy1 := y1.isLt
  have hy2 := y2.isLt
  rw [small_eq m c t h1, pay4_at]
  simp only [u_at m c y1 _ ⟨t.val / 12, by omega⟩ ⟨t.val / 3 % 4 * 2080 + y1, by omega⟩ t.val t.isLt rfl rfl,
    blk2 m c t _ ⟨1280 + y2, by omega⟩ ⟨4096 + y2, by omega⟩ (by simp only; omega)]
  show SMALL m c (ix3 (⟨t.val / 12, by omega⟩ : Fin 2) (⟨t.val / 3 % 4 * 2080 + y1, by omega⟩ : Fin 8320) y2) = _
  blk_ext [idx t]

end Cert.Kernel3Ideal.Value
-- ==== Proof.DnProjEq.lean ====
module
public import proofs.«01_k».proof.Proof.Gen.Reference3Ideal.Run
public import proofs.«01_k».proof.Proof.DnProj
public import Idealize.ShloMosaic.Lib.Pointwise
public import Idealize.ShloMosaic.Lib.Claim
@[expose] public section
/-! The gated DeltaNet's input projection as the reference computes it, and that the kernel's arrays are the same. -/
set_option maxRecDepth 16384
noncomputable section
open Idealize.ShloMosaic Idealize.ShloMosaic.TcCoe Idealize.SL.Sem
namespace Cert.Reference3Ideal.Value
open Cert.Reference3Ideal Cert.Reference3Ideal.Gen Cert.Tail

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

/-- The layer's norm weights. -/
def nwV (W : FVec Ideal S4x1024 .f32) : FVec Ideal S1024 .f32 :=
  shapeCast _ (extractStridedSlice S1x1024 ![0, 0] W slices_S4x1024_S1x1024_0_0) shapeCasts_S1x1024_S1024

theorem nwV_at (W : FVec Ideal S4x1024 .f32) (d : Fin 1024) : nwV W (ix1 d) = W (ix2 0 d) := by
  pointwise [nwV]

/-- The product of the normed rows and the weights. -/
def dotV (X : FVec Ideal S2x8320x1024 .f32) (NW : FVec Ideal S4x1024 .f32) (W : FVec Ideal S2x1024x4112 .f32) : FVec Ideal S2x8320x4112 .f32 :=
  Host.dotGeneral dot_S2x8320x1024_S1024x4112_S2x8320x4112_2_0_01_1_n_n none (rmsV X (nwV NW)) (shapeCast _ (extractStridedSlice S1x1024x4112 ![0, 0, 0] W slices_S2x1024x4112_S1x1024x4112_0_0_0) shapeCasts_S1x1024x4112_S1024x4112)

theorem dotV_at (X : FVec Ideal S2x8320x1024 .f32) (NW : FVec Ideal S4x1024 .f32) (W : FVec Ideal S2x1024x4112 .f32) (b : Fin 2) (l : Fin 8320) (j : Fin 4112) :
    dotV X NW W (ix3 b l j) = proj (fun e => X (ix3 b l e)) (fun e => NW (ix2 0 e)) (fun e => W (ix3 0 e j)) := by
  have e : dotV X NW W (ix3 b l j) = ∑ e : Fin 1024, rmsV X (nwV NW) (ix3 b l e) * W (ix3 0 e j) := by
    pointwise! [dotV]
  rw [e, proj]
  simp only [rmsV_at, nwV_at]

/-- The product behind which 112 columns of zeros stand. -/
def padV (P : FVec Ideal S2x8320x4112 .f32) : FVec Ideal S2x8320x4224 .f32 :=
  pad S2x8320x4224 ![0, 0, 0] ![0, 0, 112] ![0, 0, 0] P (sitofp .f32 (constantI S_ 32 0#32)) pads_S2x8320x4112_S2x8320x4224_000_000_01120 h_S_

theorem padV_at (P : FVec Ideal S2x8320x4112 .f32) (b : Fin 2) (l : Fin 8320) (j : Fin 4224) :
    padV P (ix3 b l j) = if h : (j : ℕ) < 4112 then P (ix3 b l (⟨j, h⟩ : Fin 4112)) else 0 := by
  pointwise [padV]
  by_cases q : (j : ℕ) < 4112
  · simp only [dif_pos q]
  · simp only [dif_neg q, FloatOps.sitofp]
    simp

/-- The last columns. -/
def lastV (P : FVec Ideal S2x8320x4224 .f32) : FVec Ideal S2x8320x128 .f32 :=
  extractStridedSlice S2x8320x128 ![0, 0, 4096] P slices_S2x8320x4224_S2x8320x128_0_0_4096

theorem lastV_at (P : FVec Ideal S2x8320x4224 .f32) (b : Fin 2) (l : Fin 8320) (j : Fin 128) :
    lastV P (ix3 b l j) = P (ix3 b l (⟨4096 + j, by omega⟩ : Fin 4224)) := by
  pointwise [lastV]

/-- A zero column's product is zero. -/
theorem proj_pad (h nw : Row) (W : Fin 1024 → Fin 4112 → EReal) (j : Fin 4224) :
    (if q : (j : ℕ) < 4112 then proj h nw (fun e => W e ⟨j, q⟩) else 0)
      = proj h nw (fun e => if q : (j : ℕ) < 4112 then W e ⟨j, q⟩ else 0) := by
  by_cases q : (j : ℕ) < 4112
  · simp only [dif_pos q]
  · simp only [dif_neg q, proj, mul_zero, Finset.sum_const_zero]

variable (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h : m' (c.tc.loc main_arg0) = m (c.tc.loc Cert.Kernel3Ideal.main_arg0)
      ∧ m' (c.tc.loc main_arg1) = m (c.tc.loc Cert.Kernel3Ideal.main_arg1)
      ∧ m' (c.tc.loc main_arg2) = m (c.tc.loc Cert.Kernel3Ideal.main_arg2))
include h

theorem pad_at (b : Fin 2) (l : Fin 8320) (j : Fin 4224) :
    padV (dotV (m' (c.tc.loc main_arg0)) (m' (c.tc.loc main_arg1)) (m' (c.tc.loc main_arg2))) (ix3 b l j)
      = proj (Cert.Kernel3Ideal.Value.hRow m c b l) (Cert.Kernel3Ideal.Value.nW m c) (fun e => Cert.Kernel3Ideal.Value.wPad m c e j) := by
  obtain ⟨h0, h1, h2⟩ := h
  rw [padV_at]
  simp only [dotV_at, h0, h1, h2]
  exact proj_pad (fun e => m (c.tc.loc Cert.Kernel3Ideal.main_arg0) (ix3 b l e)) (fun e => m (c.tc.loc Cert.Kernel3Ideal.main_arg1) (ix2 0 e)) (fun e k => m (c.tc.loc Cert.Kernel3Ideal.main_arg2) (ix3 0 e k)) j

/-- What the reference returns first is what the kernel's run leaves. -/
theorem res_eq : truncf .bf16 (padV (dotV (m' (c.tc.loc main_arg0)) (m' (c.tc.loc main_arg1)) (m' (c.tc.loc main_arg2)))) bitsLt_bf16_f32
    = (Cert.Kernel3Ideal.Gen.dats m 0 c).arrAt 3 Cert.Kernel3Ideal.cfg0.N := by
  rw [Cert.Kernel3Ideal.Value.final m c]
  funext i
  rw [eq_ix3 i]
  exact pad_at m m' c h (i 0) (i 1) (i 2)

/-- And second. -/
theorem small_eq : lastV (padV (dotV (m' (c.tc.loc main_arg0)) (m' (c.tc.loc main_arg1)) (m' (c.tc.loc main_arg2))))
    = (Cert.Kernel3Ideal.Gen.dats m 0 c).arrAt 4 Cert.Kernel3Ideal.cfg0.N := by
  rw [Cert.Kernel3Ideal.Value.final_small m c]
  funext i
  rw [eq_ix3 i]
  exact (lastV_at _ (i 0) (i 1) (i 2)).trans (pad_at m m' c h (i 0) (i 1) _)

end Cert.Reference3Ideal.Value
-- ==== Proof.DaProj.lean ====
module
public import proofs.«01_k».proof.Proof.Gen.Kernel4Ideal.Value
public import proofs.«01_k».proof.Proof.ProjMath
public import Idealize.ShloMosaic.Lib.Pointwise
public import Idealize.ShloMosaic.Lib.Pipeline.ValueKit
public import Idealize.ShloMosaic.Lib.Pipeline.ReadBack
public import Idealize.ShloMosaic.Lib.Claim
@[expose] public section
/-! The differential attention's input projection: the blocks, the normed rows the scratch holds, and the result array. -/
set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen Cert.Tail

theorem pay1_at (h : Vec Ideal S1x2080x1024 .f32) (w : Vec Ideal S1x1024 .f32) (r : Fin 2080) (d : Fin 1024) :
    k0_pay1 h w (ix2 r d) = rms (fun e => h (ix3 0 r e)) (fun e => w (ix2 0 e)) d := by
  pointwise! [k0_pay1, rms]

theorem pay2_at (u : Vec Ideal S2080x1024 .bf16) (w : Vec Ideal S1x1024x1024 .bf16) (s : Vec Ideal S1x1024 .f32) (r : Fin 2080) (k : Fin 1024) :
    k0_pay2 u w s (ix3 0 r k) = (∑ e : Fin 1024, u (ix2 r e) * w (ix3 0 e k)) * s (ix2 0 k) := by
  pointwise! [k0_pay2]

variable (m : (ℓ : Loc nD τ sig) → Buf (Elt Ideal) ℓ)

theorem idx : ∀ t : Fin cfg0.N, win0_0.index t = ![t.val / 12, t.val / 3 % 4, 0]
    ∧ win0_1.index t = ![0, 0]
    ∧ win0_2.index t = ![0, 0, t.val % 3]
    ∧ win0_3.index t = ![0, t.val % 3]
    ∧ win0_4.index t = ![t.val / 12, t.val / 3 % 4, t.val % 3] :=
  (by decide +kernel : ∀ t : Fin grid0.N, _)

theorem blk0 (c : Dev nD) (t : Fin cfg0.N) (b : Fin 2) (l : Fin 8320) (r : Fin 2080) (k : Fin 1024) (hb : (b : ℕ) = t.val / 12)
    (hl : (l : ℕ) = t.val / 3 % 4 * 2080 + r) :
    iblk m c 0 t (ix3 0 r k) = m ((c : Thread nD τ).loc main_arg0) (ix3 b l k) := by
  blk_point [iblk, idx t]
theorem blk1 (c : Dev nD) (t : Fin cfg0.N) (k : Fin 1024) :
    iblk m c 1 t (ix2 0 k) = m ((c : Thread nD τ).loc main_arg1) (ix2 1 k) := by
  blk_point [iblk, idx t]
theorem blk2 (c : Dev nD) (t : Fin cfg0.N) (e : Fin 1024) (k : Fin 1024) (j : Fin 3072) (hj : (j : ℕ) = t.val % 3 * 1024 + k) :
    iblk m c 2 t (ix3 0 e k) = m ((c : Thread nD τ).loc main_arg2) (ix3 0 e j) := by
  blk_point [iblk, idx t]
/-- The scale of the columns. -/
def colScale (j : Fin 3072) : EReal := if (j : ℕ) < 1024 then Ideal.ofBits .f32 0x3E38AA3B#32 else 1

theorem scale_eq (c : Dev nD) : V m c main_v7
    = shapeCast S1x3072 (concatenate S3072 0 [⟨S1024, broadcastInDim S1024 ![] bcast_S_S1024 (constant (F := Ideal) S_ .f32 0x3E38AA3B#32)⟩,
        ⟨S2048, broadcastInDim S2048 ![] bcast_S_S2048 (constant (F := Ideal) S_ .f32 0x3F800000#32)⟩] concatenates_S1024_S2048_S3072_d0) shapeCasts_S3072_S1x3072 := by
  simp only [V, hostOps0, List.flatten_cons, List.flatten_nil, List.append_nil, List.cons_append, List.nil_append]
  after_results <;> rfl

theorem blk3 (c : Dev nD) (t : Fin cfg0.N) (k : Fin 1024) (j : Fin 3072) (hj : (j : ℕ) = t.val % 3 * 1024 + k) :
    iblk m c 3 t (ix2 0 k) = colScale j := by
  have e : iblk m c 3 t (ix2 0 k) = V m c main_v7 (ix2 0 j) := by
    blk_simp [iblk]
    refine congrArg _ (funext fun a => Fin.ext ?_)
    fin_cases a
    · show win0_3.index t 0 * 1 + 1 * 0 = 0
      rw [(idx t).2.2.2.1]; rfl
    · show win0_3.index t 1 * 1024 + 1 * (k : ℕ) = (j : ℕ)
      rw [(idx t).2.2.2.1, hj, one_mul]; rfl
  rw [e, scale_eq, colScale]
  pointwise
  rw [dite_eq_ite]

/-- Row `l` of sequence `b` of the residual stream. -/
abbrev hRow (c : Dev nD) (b : Fin 2) (l : Fin 8320) : Row := fun k => m ((c : Thread nD τ).loc main_arg0) (ix3 b l k)
/-- The norm's weights. -/
abbrev nW (c : Dev nD) : Row := fun k => m ((c : Thread nD τ).loc main_arg1) (ix2 1 k)

/-- The body's normed row, read from its blocks. -/
theorem pay1_row (c : Dev nD) (t : Fin cfg0.N) (b : Fin 2) (l : Fin 8320) (r : Fin 2080) (d : Fin 1024) (hb : (b : ℕ) = t.val / 12)
    (hl : (l : ℕ) = t.val / 3 % 4 * 2080 + r) :
    k0_pay1 (iblk m c 0 t) (iblk m c 1 t) (ix2 r d) = rms (hRow m c b l) (nW m c) d := by
  rw [pay1_at]
  simp only [blk0 m c t b l r _ hb hl, blk1]

/-- A block's first point norms its rows into the scratch. -/
theorem u_first (c : Dev nD) (t : Fin cfg0.N) (h0 : t.val % 3 = 0) :
    (outsAt0 m c t.val t.isLt).2 = k0_pay1 (iblk m c 0 t) (iblk m c 1 t) := by
  rw [outsAt0_A m c t h0]; frame_out

/-- Its later points keep the scratch. -/
theorem u_mid (c : Dev nD) (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]; rfl

/-- Every point multiplies what the scratch holds by its columns of the weights. -/
theorem out_eq (c : Dev nD) (t : Fin cfg0.N) :
    (outsAt0 m c t.val t.isLt).1 = k0_pay2 (outsAt0 m c t.val t.isLt).2 (iblk m c 2 t) (iblk m c 3 t) := by
  by_cases h0 : t.val % 3 = 0
  · rw [u_first m c t h0, outsAt0_A m c t h0]; frame_out
  · rw [u_mid m c t h0, outsAt0_B m c t h0]; frame_out
    simp only [read_unread_whole]

/-- At every point the scratch holds the block's rows, normed. -/
theorem u_at (c : Dev nD) (r : Fin 2080) (d : Fin 1024) (b : Fin 2) (l : Fin 8320) :
    ∀ (n : ℕ) (hn : n < cfg0.N), (b : ℕ) = n / 12 → (l : ℕ) = n / 3 % 4 * 2080 + r →
      (outsAt0 m c n hn).2 (ix2 r d) = rms (hRow m c b l) (nW m c) d := by
  intro n
  induction n with
  | zero =>
    intro hn hb hl
    rw [u_first m c ⟨0, hn⟩ (by simp only), pay1_row m c ⟨0, hn⟩ b l r d hb hl]
  | succ k ih =>
    intro hn hb hl
    by_cases h0 : (k + 1) % 3 = 0
    · rw [u_first m c ⟨k + 1, hn⟩ h0, pay1_row m c ⟨k + 1, hn⟩ b l r d hb hl]
    · have e := u_mid m c ⟨k + 1, hn⟩ h0
      simp only [Nat.add_sub_cancel] at e
      rw [e]
      exact ih (by omega) (by omega) (by omega)

/-- What the result array holds after the run. -/
def OUT (c : Dev nD) : FVec Ideal S2x8320x3072 .bf16 := fun i =>
  proj (hRow m c (i 0) (i 1)) (nW m c) (fun e => m ((c : Thread nD τ).loc main_arg2) (ix3 0 e (i 2))) * colScale (i 2)

theorem final (c : Dev nD) : (dats m 0 c).arrAt 4 cfg0.N = OUT m c := by
  refine (dats m 0 c).arrAt_eq_of_covers 4 _ (by decide +kernel) fun t hf y => ?_
  have hN : t.val < 24 := lt_of_lt_of_eq t.isLt N_0
  blk_simp
  rw [after0_4]
  idx_vars y
  obtain rfl : y0 = 0 := Subsingleton.elim _ _
  have hy1 := y1.isLt
  have hy2 := y2.isLt
  rw [out_eq, pay2_at]
  simp only [u_at m c y1 _ ⟨t.val / 12, by omega⟩ ⟨t.val / 3 % 4 * 2080 + y1, by omega⟩ t.val t.isLt rfl rfl,
    blk2 m c t _ y2 ⟨t.val % 3 * 1024 + y2, by omega⟩ rfl, blk3 m c t y2 ⟨t.val % 3 * 1024 + y2, by omega⟩ rfl]
  show OUT m c (ix3 (⟨t.val / 12, by omega⟩ : Fin 2) (⟨t.val / 3 % 4 * 2080 + y1, by omega⟩ : Fin 8320) (⟨t.val % 3 * 1024 + y2, by omega⟩ : Fin 3072)) = _
  blk_ext [idx t]

end Cert.Kernel4Ideal.Value
-- ==== Proof.DaProjEq.lean ====
module
public import proofs.«01_k».proof.Proof.Gen.Reference4Ideal.Run
public import proofs.«01_k».proof.Proof.DaProj
public import Idealize.ShloMosaic.Lib.Pointwise
public import Idealize.ShloMosaic.Lib.Claim
@[expose] public section
/-! The differential attention's input projection as the reference computes it, and that the kernel's arrays are the same. -/
set_option maxRecDepth 16384
noncomputable section
open Idealize.ShloMosaic Idealize.ShloMosaic.TcCoe Idealize.SL.Sem
namespace Cert.Reference4Ideal.Value
open Cert.Reference4Ideal Cert.Reference4Ideal.Gen Cert.Tail

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

/-- The layer's norm weights. -/
def nwV (W : FVec Ideal S4x1024 .f32) : FVec Ideal S1024 .f32 :=
  shapeCast _ (extractStridedSlice S1x1024 ![1, 0] W slices_S4x1024_S1x1024_1_0) shapeCasts_S1x1024_S1024

theorem nwV_at (W : FVec Ideal S4x1024 .f32) (d : Fin 1024) : nwV W (ix1 d) = W (ix2 1 d) := by
  pointwise [nwV]

/-- The product of the normed rows and the weights. -/
def dotV (X : FVec Ideal S2x8320x1024 .f32) (NW : FVec Ideal S4x1024 .f32) (W : FVec Ideal S1x1024x3072 .f32) : FVec Ideal S2x8320x3072 .f32 :=
  Host.dotGeneral dot_S2x8320x1024_S1024x3072_S2x8320x3072_2_0_01_1_n_n none (rmsV X (nwV NW)) (shapeCast _ W shapeCasts_S1x1024x3072_S1024x3072)

theorem dotV_at (X : FVec Ideal S2x8320x1024 .f32) (NW : FVec Ideal S4x1024 .f32) (W : FVec Ideal S1x1024x3072 .f32) (b : Fin 2) (l : Fin 8320) (j : Fin 3072) :
    dotV X NW W (ix3 b l j) = proj (fun e => X (ix3 b l e)) (fun e => NW (ix2 1 e)) (fun e => W (ix3 0 e j)) := by
  have e : dotV X NW W (ix3 b l j) = ∑ e : Fin 1024, rmsV X (nwV NW) (ix3 b l e) * W (ix3 0 e j) := by
    pointwise! [dotV]
  rw [e, proj]
  simp only [rmsV_at, nwV_at]

/-- The product with its first columns scaled. -/
def scaledV (P : FVec Ideal S2x8320x3072 .f32) : FVec Ideal S2x8320x3072 .f32 :=
  concatenate S2x8320x3072 2 [⟨S2x8320x1024, mulf (extractStridedSlice S2x8320x1024 ![0, 0, 0] P slices_S2x8320x3072_S2x8320x1024_0_0_0) (broadcastInDim S2x8320x1024 ![] bcast_S_S2x8320x1024 (constant S_ .f32 0x3E38AA3B#32))⟩, ⟨S2x8320x2048, extractStridedSlice S2x8320x2048 ![0, 0, 1024] P slices_S2x8320x3072_S2x8320x2048_0_0_1024⟩] concatenates_S2x8320x1024_S2x8320x2048_S2x8320x3072_d2

theorem scaledV_at (P : FVec Ideal S2x8320x3072 .f32) (b : Fin 2) (l : Fin 8320) (j : Fin 3072) :
    scaledV P (ix3 b l j) = P (ix3 b l j) * Cert.Kernel4Ideal.Value.colScale j := by
  rw [Cert.Kernel4Ideal.Value.colScale]
  pointwise [scaledV]
  by_cases q : (j : ℕ) < 1024
  · simp only [dif_pos q, if_pos q]
  · simp only [dif_neg q, if_neg q, mul_one]
    exact congrArg (fun k => P (ix3 b l k)) (Fin.ext (show 1024 + ((j : ℕ) - 1024) = j by omega))

variable (m : (ℓ : Loc Cert.Kernel4Ideal.nD Cert.Kernel4Ideal.τ Cert.Kernel4Ideal.sig) → Buf (Elt Ideal) ℓ)
    (m' : (ℓ : Loc nD τ sig) → Buf (Elt Ideal) ℓ) (c : Dev nD)
    (h : m' (c.tc.loc main_arg0) = m (c.tc.loc Cert.Kernel4Ideal.main_arg0)
      ∧ m' (c.tc.loc main_arg1) = m (c.tc.loc Cert.Kernel4Ideal.main_arg1)
      ∧ m' (c.tc.loc main_arg2) = m (c.tc.loc Cert.Kernel4Ideal.main_arg2))
include h

/-- What the reference returns is what the kernel's run leaves. -/
theorem res_eq : truncf .bf16 (scaledV (dotV (m' (c.tc.loc main_arg0)) (m' (c.tc.loc main_arg1)) (m' (c.tc.loc main_arg2)))) bitsLt_bf16_f32
    = (Cert.Kernel4Ideal.Gen.dats m 0 c).arrAt 4 Cert.Kernel4Ideal.cfg0.N := by
  rw [Cert.Kernel4Ideal.Value.final m c]
  funext i
  obtain ⟨h0, h1, h2⟩ := h
  rw [eq_ix3 i]
  refine (scaledV_at _ (i 0) (i 1) (i 2)).trans ?_
  refine (congrArg (· * Cert.Kernel4Ideal.Value.colScale (i 2)) (dotV_at _ _ _ (i 0) (i 1) (i 2))).trans ?_
  rw [h0, h1, h2]
  rfl

end Cert.Reference4Ideal.Value
-- ==== Proof.LruProj.lean ====
module
public import proofs.«01_k».proof.Proof.Gen.Kernel5Ideal.Value
public import proofs.«01_k».proof.Proof.ProjMath
public import Idealize.ShloMosaic.Lib.Pointwise
public import Idealize.ShloMosaic.Lib.Pipeline.ValueKit
public import Idealize.ShloMosaic.Lib.Pipeline.ReadBack
public import Idealize.ShloMosaic.Lib.Claim
@[expose] public section
/-! The recurrent block's input projection: the blocks, the normed rows the scratch holds, and the result array. -/
set_option maxRecDepth 16384
noncomputable section
open Idealize.ShloMosaic Idealize.ShloMosaic.TcCoe Idealize.SL.Sem
open Idealize.ShloMosaic.Pipeline (Dat)
namespace Cert.Kernel5Ideal.Value
open Cert.Kernel5Ideal Cert.Kernel5Ideal.Gen Cert.Tail

theorem pay1_at (h : Vec Ideal S1x2080x1024 .f32) (w : Vec Ideal S1x1024 .f32) (r : Fin 2080) (d : Fin 1024) :
    k0_pay1 h w (ix2 r d) = rms (fun e => h (ix3 0 r e)) (fun e => w (ix2 0 e)) d := by
  pointwise! [k0_pay1, rms]

theorem pay2_at (u : Vec Ideal S2080x1024 .bf16) (w : Vec Ideal S1x1024x1024 .bf16) (r : Fin 2080) (k : Fin 1024) :
    k0_pay2 u w (ix3 0 r k) = ∑ e : Fin 1024, u (ix2 r e) * w (ix3 0 e k) := by
  pointwise! [k0_pay2]

variable (m : (ℓ : Loc nD τ sig) → Buf (Elt Ideal) ℓ)

theorem idx : ∀ t : Fin cfg0.N, win0_0.index t = ![t.val / 8, t.val / 2 % 4, 0]
    ∧ win0_1.index t = ![0, 0]
    ∧ win0_2.index t = ![0, 0, t.val % 2]
    ∧ win0_3.index t = ![t.val / 8, t.val / 2 % 4, t.val % 2] :=
  (by decide +kernel : ∀ t : Fin grid0.N, _)

theorem blk0 (c : Dev nD) (t : Fin cfg0.N) (b : Fin 2) (l : Fin 8320) (r : Fin 2080) (k : Fin 1024) (hb : (b : ℕ) = t.val / 8)
    (hl : (l : ℕ) = t.val / 2 % 4 * 2080 + r) :
    iblk m c 0 t (ix3 0 r k) = m ((c : Thread nD τ).loc main_arg0) (ix3 b l k) := by
  blk_point [iblk, idx t]
theorem blk1 (c : Dev nD) (t : Fin cfg0.N) (k : Fin 1024) :
    iblk m c 1 t (ix2 0 k) = m ((c : Thread nD τ).loc main_arg1) (ix2 2 k) := by
  blk_point [iblk, idx t]
theorem blk2 (c : Dev nD) (t : Fin cfg0.N) (e : Fin 1024) (k : Fin 1024) (j : Fin 2048) (hj : (j : ℕ) = t.val % 2 * 1024 + k) :
    iblk m c 2 t (ix3 0 e k) = m ((c : Thread nD τ).loc main_arg2) (ix3 0 e j) := by
  blk_point [iblk, idx t]

/-- Row `l` of sequence `b` of the residual stream. -/
abbrev hRow (c : Dev nD) (b : Fin 2) (l : Fin 8320) : Row := fun k => m ((c : Thread nD τ).loc main_arg0) (ix3 b l k)
/-- The norm's weights. -/
abbrev nW (c : Dev nD) : Row := fun k => m ((c : Thread nD τ).loc main_arg1) (ix2 2 k)

/-- The body's normed row, read from its blocks. -/
theorem pay1_row (c : Dev nD) (t : Fin cfg0.N) (b : Fin 2) (l : Fin 8320) (r : Fin 2080) (d : Fin 1024) (hb : (b : ℕ) = t.val / 8)
    (hl : (l : ℕ) = t.val / 2 % 4 * 2080 + r) :
    k0_pay1 (iblk m c 0 t) (iblk m c 1 t) (ix2 r d) = rms (hRow m c b l) (nW m c) d := by
  rw [pay1_at]
  simp only [blk0 m c t b l r _ hb hl, blk1]

/-- A block's first point norms its rows into the scratch. -/
theorem u_first (c : Dev nD) (t : Fin cfg0.N) (h0 : t.val % 2 = 0) :
    (outsAt0 m c t.val t.isLt).2 = k0_pay1 (iblk m c 0 t) (iblk m c 1 t) := by
  rw [outsAt0_A m c t h0]; frame_out

/-- Its later points keep the scratch. -/
theorem u_mid (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]; rfl

/-- Every point multiplies what the scratch holds by its columns of the weights. -/
theorem out_eq (c : Dev nD) (t : Fin cfg0.N) :
    (outsAt0 m c t.val t.isLt).1 = k0_pay2 (outsAt0 m c t.val t.isLt).2 (iblk m c 2 t) := by
  by_cases h0 : t.val % 2 = 0
  · rw [u_first m c t h0, outsAt0_A m c t h0]; frame_out
  · rw [u_mid m c t h0, outsAt0_B m c t h0]; frame_out
    simp only [read_unread_whole]

/-- At every point the scratch holds the block's rows, normed. -/
theorem u_at (c : Dev nD) (r : Fin 2080) (d : Fin 1024) (b : Fin 2) (l : Fin 8320) :
    ∀ (n : ℕ) (hn : n < cfg0.N), (b : ℕ) = n / 8 → (l : ℕ) = n / 2 % 4 * 2080 + r →
      (outsAt0 m c n hn).2 (ix2 r d) = rms (hRow m c b l) (nW m c) d := by
  intro n
  induction n with
  | zero =>
    intro hn hb hl
    rw [u_first m c ⟨0, hn⟩ (by simp only), pay1_row m c ⟨0, hn⟩ b l r d hb hl]
  | succ k ih =>
    intro hn hb hl
    by_cases h0 : (k + 1) % 2 = 0
    · rw [u_first m c ⟨k + 1, hn⟩ h0, pay1_row m c ⟨k + 1, hn⟩ b l r d hb hl]
    · have e := u_mid m c ⟨k + 1, hn⟩ h0
      simp only [Nat.add_sub_cancel] at e
      rw [e]
      exact ih (by omega) (by omega) (by omega)

/-- What the result array holds after the run. -/
def OUT (c : Dev nD) : FVec Ideal S2x8320x2048 .bf16 := fun i =>
  proj (hRow m c (i 0) (i 1)) (nW m c) (fun e => m ((c : Thread nD τ).loc main_arg2) (ix3 0 e (i 2)))

theorem final (c : Dev nD) : (dats m 0 c).arrAt 3 cfg0.N = OUT m c := by
  refine (dats m 0 c).arrAt_eq_of_covers 3 _ (by decide +kernel) fun t hf y => ?_
  have hN : t.val < 16 := lt_of_lt_of_eq t.isLt N_0
  blk_simp
  rw [after0_3]
  idx_vars y
  obtain rfl : y0 = 0 := Subsingleton.elim _ _
  have hy1 := y1.isLt
  have hy2 := y2.isLt
  rw [out_eq, pay2_at]
  simp only [u_at m c y1 _ ⟨t.val / 8, by omega⟩ ⟨t.val / 2 % 4 * 2080 + y1, by omega⟩ t.val t.isLt rfl rfl,
    blk2 m c t _ y2 ⟨t.val % 2 * 1024 + y2, by omega⟩ rfl]
  show OUT m c (ix3 (⟨t.val / 8, by omega⟩ : Fin 2) (⟨t.val / 2 % 4 * 2080 + y1, by omega⟩ : Fin 8320) (⟨t.val % 2 * 1024 + y2, by omega⟩ : Fin 2048)) = _
  blk_ext [idx t]

end Cert.Kernel5Ideal.Value
-- ==== Proof.LruProjEq.lean ====
module
public import proofs.«01_k».proof.Proof.Gen.Reference5Ideal.Run
public import proofs.«01_k».proof.Proof.LruProj
public import Idealize.ShloMosaic.Lib.Pointwise
public import Idealize.ShloMosaic.Lib.Claim
@[expose] public section
/-! The recurrent block's input projection as the reference computes it, and that the kernel's arrays are the same. -/
set_option maxRecDepth 16384
noncomputable section
open Idealize.ShloMosaic Idealize.ShloMosaic.TcCoe Idealize.SL.Sem
namespace Cert.Reference5Ideal.Value
open Cert.Reference5Ideal Cert.Reference5Ideal.Gen Cert.Tail

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

/-- The layer's norm weights. -/
def nwV (W : FVec Ideal S4x1024 .f32) : FVec Ideal S1024 .f32 :=
  shapeCast _ (extractStridedSlice S1x1024 ![2, 0] W slices_S4x1024_S1x1024_2_0) shapeCasts_S1x1024_S1024

theorem nwV_at (W : FVec Ideal S4x1024 .f32) (d : Fin 1024) : nwV W (ix1 d) = W (ix2 2 d) := by
  pointwise [nwV]

/-- The product of the normed rows and the weights. -/
def dotV (X : FVec Ideal S2x8320x1024 .f32) (NW : FVec Ideal S4x1024 .f32) (W : FVec Ideal S1x1024x2048 .f32) : FVec Ideal S2x8320x2048 .f32 :=
  Host.dotGeneral dot_S2x8320x1024_S1024x2048_S2x8320x2048_2_0_01_1_n_n none (rmsV X (nwV NW)) (shapeCast _ W shapeCasts_S1x1024x2048_S1024x2048)

theorem dotV_at (X : FVec Ideal S2x8320x1024 .f32) (NW : FVec Ideal S4x1024 .f32) (W : FVec Ideal S1x1024x2048 .f32) (b : Fin 2) (l : Fin 8320) (j : Fin 2048) :
    dotV X NW W (ix3 b l j) = proj (fun e => X (ix3 b l e)) (fun e => NW (ix2 2 e)) (fun e => W (ix3 0 e j)) := by
  have e : dotV X NW W (ix3 b l j) = ∑ e : Fin 1024, rmsV X (nwV NW) (ix3 b l e) * W (ix3 0 e j) := by
    pointwise! [dotV]
  rw [e, proj]
  simp only [rmsV_at, nwV_at]

variable (m : (ℓ : Loc Cert.Kernel5Ideal.nD Cert.Kernel5Ideal.τ Cert.Kernel5Ideal.sig) → Buf (Elt Ideal) ℓ)
    (m' : (ℓ : Loc nD τ sig) → Buf (Elt Ideal) ℓ) (c : Dev nD)
    (h : m' (c.tc.loc main_arg0) = m (c.tc.loc Cert.Kernel5Ideal.main_arg0)
      ∧ m' (c.tc.loc main_arg1) = m (c.tc.loc Cert.Kernel5Ideal.main_arg1)
      ∧ m' (c.tc.loc main_arg2) = m (c.tc.loc Cert.Kernel5Ideal.main_arg2))
include h

/-- What the reference returns is what the kernel's run leaves. -/
theorem res_eq : truncf .bf16 (dotV (m' (c.tc.loc main_arg0)) (m' (c.tc.loc main_arg1)) (m' (c.tc.loc main_arg2))) bitsLt_bf16_f32
    = (Cert.Kernel5Ideal.Gen.dats m 0 c).arrAt 3 Cert.Kernel5Ideal.cfg0.N := by
  rw [Cert.Kernel5Ideal.Value.final m c]
  funext i
  obtain ⟨h0, h1, h2⟩ := h
  rw [eq_ix3 i]
  refine (dotV_at _ _ _ (i 0) (i 1) (i 2)).trans ?_
  rw [h0, h1, h2]
  rfl

end Cert.Reference5Ideal.Value
-- ==== Proof.BiasMath.lean ====
module
public import Idealize.ShloMosaic.Lib.Pointwise
public import Idealize.ShloMosaic.Lib.IdealHost
@[expose] public section
/-! The bucket of a relative position, as the words that the programs compute it with, and its range. -/
noncomputable section
open Idealize.ShloMosaic Idealize.ShloMosaic.TcCoe Idealize.SL.Sem
namespace Cert.Bias

/-- The buckets that a distance of at least 8 lies above the eighth: 8 · log(n/8) / log 16, rounded toward zero. -/
def farW (n : BitVec 32) : BitVec 32 :=
  Ideal.fptosi 32 (Ideal.div (Ideal.log (Ideal.div (FloatOps.sitofp (F := Ideal) FTy.f32 n : EReal) (Ideal.ofBits FTy.f32 0x41000000#32)))
    (Ideal.ofBits FTy.f32 0x40317218#32) * Ideal.ofBits FTy.f32 0x41000000#32)

/-- The bucket of the relative position `r`. -/
def bucketW (r : BitVec 32) : BitVec 32 :=
  IntOp.addi (Scalar.select (IntOp.cmpi .sgt r 0#32) 16#32 0#32)
    (Scalar.select (IntOp.cmpi .slt (IntOp.absi r) 8#32) (IntOp.absi r)
      (IntOp.minsi (IntOp.addi 8#32 (farW (IntOp.maxsi (IntOp.absi r) 1#32))) 15#32))

theorem eight : Ideal.ofBits FTy.f32 0x41000000#32 = ((8 : ℝ) : EReal) := by
  simp [Ideal.ofBits, Ideal.ieee, -EReal.coe_mul]; norm_num

/-- The literal for log 16 is a real above 1. -/
theorem log16 : ∃ L : ℝ, 1 ≤ L ∧ Ideal.ofBits FTy.f32 0x40317218#32 = (L : EReal) := by
  refine ⟨_, ?_, by simp [Ideal.ofBits, Ideal.ieee, -EReal.coe_mul]; rfl⟩
  norm_num

theorem farW_range (z : ℕ) (h8 : 8 ≤ z) (hz : z < 512) : ∃ k : ℕ, k < 505 ∧ farW (BitVec.ofNat 32 z) = BitVec.ofNat 32 k := by
  obtain ⟨L, hL, eL⟩ := log16
  have hs : (FloatOps.sitofp (F := Ideal) FTy.f32 (BitVec.ofNat 32 z) : EReal) = ((z : ℝ) : EReal) := by
    show ((((BitVec.ofNat 32 z).toInt : ℤ) : ℝ) : EReal) = _
    have : (BitVec.ofNat 32 z).toInt = (z : ℤ) := by
      rw [BitVec.toInt_eq_toNat_cond, BitVec.toNat_ofNat]; omega
    rw [this]; norm_cast
  have hz8 : (8 : ℝ) ≤ z := by exact_mod_cast h8
  have hz512 : (z : ℝ) < 512 := by exact_mod_cast hz
  set y : ℝ := z * (1 / 8) with hy
  have hy1 : 1 ≤ y := by rw [hy]; linarith
  have hl0 : 0 ≤ Real.log y := Real.log_nonneg hy1
  have hl1 : Real.log y ≤ 63 := by
    have := Real.log_le_sub_one_of_pos (lt_of_lt_of_le one_pos hy1)
    have : y < 64 := by rw [hy]; linarith
    linarith
  have hi0 : 0 ≤ 1 / L := by positivity
  have hi1 : 1 / L ≤ 1 := by rw [div_le_one (by linarith)]; exact hL
  set x : ℝ := Real.log y * (1 / L) * 8 with hx
  have hx0 : 0 ≤ x := by positivity
  have hx1 : x ≤ 504 := by
    have : Real.log y * (1 / L) ≤ 63 * 1 := mul_le_mul hl1 hi1 hi0 (by norm_num)
    rw [hx]; linarith
  have e : farW (BitVec.ofNat 32 z) = Ideal.fptosi 32 (x : EReal) := by
    show Ideal.fptosi 32 _ = _
    rw [hs, eight, eL, Ideal.div_coe (by norm_num : (8 : ℝ) ≠ 0), ← EReal.coe_mul, Ideal.log_coe, if_neg (by linarith),
      Ideal.div_coe (by linarith : L ≠ 0), ← EReal.coe_mul, ← EReal.coe_mul]
  have hf0 : 0 ≤ ⌊x⌋ := Int.floor_nonneg.mpr hx0
  have hf1 : ⌊x⌋ ≤ 504 := by
    have : (⌊x⌋ : ℝ) ≤ 504 := (Int.floor_le x).trans hx1
    exact_mod_cast this
  refine ⟨⌊x⌋.toNat, by omega, ?_⟩
  rw [e, Ideal.fptosi, Ideal.toIntClamped_coe, if_pos hx0]
  have : max (-((2 ^ (32 - 1) : ℕ) : ℤ)) (min (((2 ^ (32 - 1) : ℕ) : ℤ) - 1) ⌊x⌋) = (⌊x⌋.toNat : ℤ) := by
    norm_num; omega
  rw [this, BitVec.ofInt_natCast]

theorem near_words : ∀ n : Fin 512, (n : ℕ) < 8 → IntOp.cmpi .slt (BitVec.ofNat 32 n) 8#32 = 1#1 := by decide +kernel
theorem far_words : ∀ n : Fin 512, ¬(n : ℕ) < 8 → IntOp.cmpi .slt (BitVec.ofNat 32 n) 8#32 = 0#1
    ∧ IntOp.maxsi (BitVec.ofNat 32 n) 1#32 = BitVec.ofNat 32 n := by decide +kernel
theorem min_words : ∀ k : Fin 505, IntOp.minsi (IntOp.addi 8#32 (BitVec.ofNat 32 k)) 15#32 = BitVec.ofNat 32 (min (8 + k) 15) := by decide +kernel
theorem abs_words : ∀ z : Fin 512, IntOp.absi (BitVec.ofInt 32 ((z : ℤ) - 256)) = BitVec.ofNat 32 ((z : ℤ) - 256).natAbs := by decide +kernel
theorem sign_words : ∀ z : Fin 512, IntOp.cmpi .sgt (BitVec.ofInt 32 ((z : ℤ) - 256)) 0#32 = 1#1
    ∨ IntOp.cmpi .sgt (BitVec.ofInt 32 ((z : ℤ) - 256)) 0#32 = 0#1 := by decide +kernel
theorem add_words : ∀ k : Fin 16, IntOp.addi 16#32 (BitVec.ofNat 32 k) = BitVec.ofNat 32 (16 + k)
    ∧ IntOp.addi 0#32 (BitVec.ofNat 32 k) = BitVec.ofNat 32 k := by decide +kernel

/-- The bucket of a relative position of less than 256 is one of the 32. -/
theorem bucketW_range (z : Fin 512) : ∃ k : Fin 32, bucketW (BitVec.ofInt 32 ((z : ℤ) - 256)) = BitVec.ofNat 32 k := by
  have hin : ∃ k : Fin 16, Scalar.select (IntOp.cmpi .slt (IntOp.absi (BitVec.ofInt 32 ((z : ℤ) - 256))) 8#32) (IntOp.absi (BitVec.ofInt 32 ((z : ℤ) - 256)))
      (IntOp.minsi (IntOp.addi 8#32 (farW (IntOp.maxsi (IntOp.absi (BitVec.ofInt 32 ((z : ℤ) - 256))) 1#32))) 15#32) = BitVec.ofNat 32 k := by
    rw [abs_words]
    have hn : ((z : ℤ) - 256).natAbs < 512 := by omega
    by_cases h : ((z : ℤ) - 256).natAbs < 8
    · refine ⟨⟨((z : ℤ) - 256).natAbs, by omega⟩, ?_⟩
      rw [near_words ⟨_, hn⟩ h]; rfl
    · obtain ⟨e1, e2⟩ := far_words ⟨_, hn⟩ h
      obtain ⟨k, hk, ek⟩ := farW_range ((z : ℤ) - 256).natAbs (by omega) hn
      refine ⟨⟨min (8 + k) 15, by omega⟩, ?_⟩
      simp only at e1 e2
      rw [e1, e2, ek, min_words ⟨k, hk⟩]; rfl
  obtain ⟨k, ek⟩ := hin
  obtain ⟨a1, a2⟩ := add_words k
  unfold bucketW
  rw [ek]
  rcases sign_words z with e | e
  · exact ⟨⟨16 + k, by omega⟩, by rw [e]; exact a1⟩
  · exact ⟨⟨k, by omega⟩, by rw [e]; exact a2⟩

/-- The relative position of key `a` and query `b`, of the same block (`w = 0`) or the key's a block before (`w = 1`). -/
def relW (a b : Fin 128) (w : Fin 2) : BitVec 32 :=
  IntOp.subi (IntOp.subi (BitVec.ofNat 32 a) (BitVec.ofNat 32 b)) (IntOp.muli 128#32 (BitVec.ofNat 32 w))

theorem relW_eq (a b : Fin 128) (w : Fin 2) : ∃ z : Fin 512, relW a b w = BitVec.ofInt 32 ((z : ℤ) - 256) := by
  refine ⟨⟨(256 + (a : ℤ) - b - 128 * w).toNat, by omega⟩, ?_⟩
  have e : (((256 + (a : ℤ) - b - 128 * w).toNat : ℕ) : ℤ) - 256 = (a : ℤ) - b - 128 * w := by omega
  simp only [e, relW, IntOp.subi, IntOp.muli]
  simp only [sub_eq_add_neg, BitVec.sub_eq_add_neg, BitVec.ofInt_add, BitVec.ofInt_neg, BitVec.ofInt_mul, BitVec.ofInt_natCast]
  rfl

/-- The bucket of key `a` and query `b`. -/
theorem bucket (a b : Fin 128) (w : Fin 2) : ∃ k : Fin 32, bucketW (relW a b w) = BitVec.ofNat 32 k := by
  obtain ⟨z, e⟩ := relW_eq a b w
  rw [e]; exact bucketW_range z

/-- That bucket. -/
def bin (a b : Fin 128) (w : Fin 2) : Fin 32 := Classical.choose (bucket a b w)

theorem bin_eq (a b : Fin 128) (w : Fin 2) : bucketW (relW a b w) = BitVec.ofNat 32 (bin a b w) := Classical.choose_spec (bucket a b w)

end Cert.Bias
-- ==== Proof.BiasTiles.lean ====
module
public import proofs.«01_k».proof.Proof.Gen.Kernel6Ideal.Value
public import proofs.«01_k».proof.Proof.BiasMath
public import Idealize.ShloMosaic.Lib.Pointwise
public import Idealize.ShloMosaic.Lib.Pipeline.ValueKit
public import Idealize.ShloMosaic.Lib.Pipeline.ReadBack
public import Idealize.ShloMosaic.Lib.Claim
@[expose] public section
/-! The bias tiles: the block a grid point writes, and the result array. -/
set_option maxRecDepth 16384
noncomputable section
open Idealize.ShloMosaic Idealize.ShloMosaic.TcCoe Idealize.SL.Sem
open Idealize.ShloMosaic.Pipeline (Dat)
namespace Cert.Kernel6Ideal.Value
open Cert.Kernel6Ideal Cert.Kernel6Ideal.Gen Cert.Bias

theorem pay2_at (i : grid0.Coords) (w : Fin 2) (hw : (i 1 : ℕ) = w) (a b : Fin 128) :
    k0_pay2 (F := Ideal) i (ix2 a b) = bucketW (relW a b w) := by
  pointwise [k0_pay2]
  rw [hw]; rfl

theorem one_word (x : Vec Ideal S32x8 .f32) (off : Fin 2 → ℕ) (inb : ∀ a, off a + S1x1.size a ≤ S32x8.size a)
    (hn : 0 < (Rect.unit (s := S32x8) off S1x1.size inb).shape.numel) (k : Fin 32) (h : Fin 8) (e : off = ![(k : ℕ), h]) :
    View.ld x (Rect.unit (s := S32x8) off S1x1.size inb) (Shape.Idx.first hn) = x (ix2 k h) := by
  refine View.ld_unit_apply_of x off _ inb _ _ fun a => ?_
  subst e
  fin_cases a <;> rfl

variable (m : (ℓ : Loc nD τ sig) → Buf (Elt Ideal) ℓ)

theorem idx : ∀ t : Fin cfg0.N, win0_0.index t = ![0, 0] ∧ win0_1.index t = ![t.val / 2, t.val % 2, 0, 0]
    ∧ ((grid0.coords t 0).val = t.val / 2) ∧ ((grid0.coords t 1).val = t.val % 2) :=
  (by decide +kernel : ∀ t : Fin grid0.N, _)

theorem blk0 (c : Dev nD) (t : Fin cfg0.N) (k : Fin 32) (h : Fin 8) :
    iblk m c 0 t (ix2 k h) = m ((c : Thread nD τ).loc main_arg0) (ix2 k h) := by
  blk_point [iblk, idx t]

/-- The table's entry of bucket `k` and head `h`. -/
abbrev tab (c : Dev nD) (k : Fin 32) (h : Fin 8) : EReal := m ((c : Thread nD τ).loc main_arg0) (ix2 k h)

theorem out_eq (c : Dev nD) (t : Fin cfg0.N) (a b : Fin 128) (k : Fin 32) (h : Fin 8) (w : Fin 2) (hh : (h : ℕ) = t.val / 2)
    (hw : (w : ℕ) = t.val % 2) (hk : bucketW (relW a b w) = BitVec.ofNat 32 k) :
    outsAt0 m c t (ix4 0 0 a b) = (tab m c k h - tab m c 15 h) * Ideal.ofBits .f32 0x3FB8AA3B#32 := by
  have e0 : (grid0.coords t 0).val = (h : ℕ) := (idx t).2.2.1.trans hh.symm
  have e1 : ∀ (k : Fin 32) (off : Fin 2 → ℕ) (inb : ∀ a, off a + S1x1.size a ≤ S32x8.size a)
    (hn : 0 < (Rect.unit (s := S32x8) off S1x1.size inb).shape.numel) (e : off = ![(k : ℕ), (grid0.coords t 0).val]),
    View.ld (iblk m c 0 t) (Rect.unit (s := S32x8) off S1x1.size inb) (Shape.Idx.first hn) = tab m c k h :=
    fun k off inb hn e => (one_word _ off inb hn k h (by rw [e, e0])).trans (blk0 m c t k h)
  have e2 := pay2_at (grid0.coords t) w ((idx t).2.2.2.trans hw.symm) a b
  unfold outsAt0
  frame_out
  rw [e1 0 _ _ _ (k0_off1_eq _)]
  rw [e1 1 _ _ _ (k0_off2_eq _)]
  rw [e1 2 _ _ _ (k0_off3_eq _)]
  rw [e1 3 _ _ _ (k0_off4_eq _)]
  rw [e1 4 _ _ _ (k0_off5_eq _)]
  rw [e1 5 _ _ _ (k0_off6_eq _)]
  rw [e1 6 _ _ _ (k0_off7_eq _)]
  rw [e1 7 _ _ _ (k0_off8_eq _)]
  rw [e1 8 _ _ _ (k0_off9_eq _)]
  rw [e1 9 _ _ _ (k0_off10_eq _)]
  rw [e1 10 _ _ _ (k0_off11_eq _)]
  rw [e1 11 _ _ _ (k0_off12_eq _)]
  rw [e1 12 _ _ _ (k0_off13_eq _)]
  rw [e1 13 _ _ _ (k0_off14_eq _)]
  rw [e1 14 _ _ _ (k0_off15_eq _)]
  rw [e1 15 _ _ _ (k0_off16_eq _)]
  rw [e1 16 _ _ _ (k0_off17_eq _)]
  rw [e1 17 _ _ _ (k0_off18_eq _)]
  rw [e1 18 _ _ _ (k0_off19_eq _)]
  rw [e1 19 _ _ _ (k0_off20_eq _)]
  rw [e1 20 _ _ _ (k0_off21_eq _)]
  rw [e1 21 _ _ _ (k0_off22_eq _)]
  rw [e1 22 _ _ _ (k0_off23_eq _)]
  rw [e1 23 _ _ _ (k0_off24_eq _)]
  rw [e1 24 _ _ _ (k0_off25_eq _)]
  rw [e1 25 _ _ _ (k0_off26_eq _)]
  rw [e1 26 _ _ _ (k0_off27_eq _)]
  rw [e1 27 _ _ _ (k0_off28_eq _)]
  rw [e1 28 _ _ _ (k0_off29_eq _)]
  rw [e1 29 _ _ _ (k0_off30_eq _)]
  rw [e1 30 _ _ _ (k0_off31_eq _)]
  rw [e1 31 _ _ _ (k0_off32_eq _)]
  pointwise [k0_pay1, k0_pay3, k0_pay4, k0_pay5, k0_pay6, k0_pay7, k0_pay8, k0_pay9, k0_pay10, k0_pay11, k0_pay12]
  rw [e2, hk]
  congr 2
  generalize tab m c = T
  fin_cases k <;> rfl

/-- What the result array holds after the run. -/
def OUT (c : Dev nD) : FVec Ideal S8x2x128x128 .f32 := fun i =>
  (tab m c (bin (i 2) (i 3) (i 1)) (i 0) - tab m c 15 (i 0)) * Ideal.ofBits .f32 0x3FB8AA3B#32

theorem final (c : Dev nD) : (dats m 0 c).arrAt 1 cfg0.N = OUT m c := by
  refine (dats m 0 c).arrAt_eq_of_covers 1 _ (by decide +kernel) fun t hf y => ?_
  have hN : t.val < 16 := lt_of_lt_of_eq t.isLt N_0
  blk_simp
  rw [after0_1]
  idx_vars y
  obtain rfl : y0 = 0 := Subsingleton.elim _ _
  obtain rfl : y1 = 0 := Subsingleton.elim _ _
  rw [out_eq m c t y2 y3 (bin y2 y3 ⟨t.val % 2, by omega⟩) ⟨t.val / 2, by omega⟩ ⟨t.val % 2, by omega⟩ rfl rfl (bin_eq _ _ _)]
  show OUT m c (ix4 (⟨t.val / 2, by omega⟩ : Fin 8) (⟨t.val % 2, by omega⟩ : Fin 2) y2 y3) = _
  blk_ext [idx t]
end Cert.Kernel6Ideal.Value
-- ==== Proof.BiasEq.lean ====
module
public import proofs.«01_k».proof.Proof.Gen.Reference6Ideal.Run
public import proofs.«01_k».proof.Proof.BiasTiles
public import Idealize.ShloMosaic.Lib.Pointwise
public import Idealize.ShloMosaic.Lib.Claim
@[expose] public section
/-! The bias tiles as the reference computes them, and that the kernel's array is the same. -/
set_option maxRecDepth 16384
noncomputable section
open Idealize.ShloMosaic Idealize.ShloMosaic.TcCoe Idealize.SL.Sem
namespace Cert.Reference6Ideal.Value
open Cert.Reference6Ideal Cert.Reference6Ideal.Gen Cert.Bias

/-- The buckets of a block of relative positions. -/
def bucketV (R : IVec S128x128 32) : IVec S128x128 32 :=
  addi (id (select (cmpi .sgt R (broadcastInDim S128x128 ![] bcast_S_S128x128 (constantI S_ 32 0#32))) (broadcastInDim S128x128 ![] bcast_S_S128x128 (constantI S_ 32 16#32)) (broadcastInDim S128x128 ![] bcast_S_S128x128 (constantI S_ 32 0#32))))
    (select (cmpi .slt (absi R) (broadcastInDim S128x128 ![] bcast_S_S128x128 (constantI S_ 32 8#32))) (absi R)
      (minsi (addi (broadcastInDim S128x128 ![] bcast_S_S128x128 (constantI S_ 32 8#32)) (fptosi 32 (mulf (Host.divf (Host.log (Host.divf (sitofp .f32 (maxsi (absi R) (broadcastInDim S128x128 ![] bcast_S_S128x128 (constantI S_ 32 1#32)))) (broadcastInDim S128x128 ![] bcast_S_S128x128 (constant S_ .f32 0x41000000#32)))) (broadcastInDim S128x128 ![] bcast_S_S128x128 (constant S_ .f32 0x40317218#32))) (broadcastInDim S128x128 ![] bcast_S_S128x128 (constant S_ .f32 0x41000000#32)) : FVec Ideal S128x128 .f32))) (broadcastInDim S128x128 ![] bcast_S_S128x128 (constantI S_ 32 15#32))))

theorem bucketV_at (R : IVec S128x128 32) (a b : Fin 128) : bucketV R (ix2 a b) = bucketW (R (ix2 a b)) := by
  pointwise [bucketV]
  rfl

/-- The rows of the table that the buckets name: a negative one would count from the end. -/
def rowsV (B : IVec S128x128 32) : IVec S128x128x1 32 :=
  broadcastInDim S128x128x1 ![0, 1] bcast_S128x128_S128x128x1_0_1 (select (cmpi .slt B (broadcastInDim S128x128 ![] bcast_S_S128x128 (constantI S_ 32 0#32))) (addi B (broadcastInDim S128x128 ![] bcast_S_S128x128 (constantI S_ 32 32#32))) B)

theorem row_words : ∀ k : Fin 32, Scalar.select (IntOp.cmpi .slt (BitVec.ofNat 32 k) 0#32) (IntOp.addi (BitVec.ofNat 32 k) 32#32) (BitVec.ofNat 32 k)
    = BitVec.ofNat 32 k := by decide +kernel

theorem rowsV_at (B : IVec S128x128 32) (a b : Fin 128) (k : Fin 32) (hk : B (ix2 a b) = BitVec.ofNat 32 k) :
    rowsV B (ix3 a b 0) = BitVec.ofNat 32 k := by
  have e : rowsV B (ix3 a b 0) = Scalar.select (IntOp.cmpi .slt (B (ix2 a b)) 0#32) (IntOp.addi (B (ix2 a b)) 32#32) (B (ix2 a b)) := by
    pointwise [rowsV]
  rw [e, hk, row_words]

/-- The relative positions of two tokens of the same block. -/
def nearV : IVec S128x128 32 :=
  subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))

theorem nearV_at (a b : Fin 128) : nearV (ix2 a b) = relW a b 0 := by
  have e : nearV (ix2 a b) = IntOp.subi (BitVec.ofNat 32 a) (BitVec.ofNat 32 b) := by
    pointwise [nearV]
  rw [e]
  simp [relW, IntOp.subi, IntOp.muli]

/-- The relative positions of a token of the block before and one of the block. -/
def beforeV : IVec S128x128 32 :=
  subi (broadcastInDim S128x128 ![0, 1] bcast_S128x1_S128x128_0_1 (subi (broadcastInDim S128x1 ![0] bcast_S128_S128x1_0 (iotaInDim S128 32 0)) (broadcastInDim S128x1 ![] bcast_S_S128x1 (constantI S_ 32 128#32)))) (broadcastInDim S128x128 ![0, 1] bcast_S1x128_S128x128_0_1 (broadcastInDim S1x128 ![1] bcast_S128_S1x128_1 (iotaInDim S128 32 0)))

theorem swap_words (x y : BitVec 32) : x - 128#32 - y = x - y - 128#32 := by bv_omega

theorem beforeV_at (a b : Fin 128) : beforeV (ix2 a b) = relW a b 1 := by
  have e : beforeV (ix2 a b) = IntOp.subi (IntOp.subi (BitVec.ofNat 32 a) 128#32) (BitVec.ofNat 32 b) := by
    pointwise [beforeV]
  rw [e]
  exact swap_words _ _

/-- Entry `(a, b, h)` of the gathered rows is the table's entry at the named row and `h`. -/
theorem gather_at (x : FVec Ideal S32x8 .f32) (g : IVec S128x128x1 32) (a b : Fin 128) (h : Fin 8) (k : Fin 32) (hk : g (ix3 a b 0) = BitVec.ofNat 32 k) :
    Host.gather gather_S32x8_S128x128x1_S128x128x8_2_0_n_n_0_2_18 x g (ix3 a b h) = x (ix2 k h) := by
  have row : gather_S32x8_S128x128x1_S128x128x8_2_0_n_n_0_2_18.siIdx (ix3 a b h) ⟨0, by decide⟩ = ix3 a b 0 := by
    funext q
    fin_cases q <;> rfl
  have word : ∀ k : Fin 32, min (BitVec.ofNat 32 k).toInt.toNat 31 = k := by decide +kernel
  refine congrArg x (funext fun q => Fin.ext ?_)
  show gather_S32x8_S128x128x1_S128x128x8_2_0_n_n_0_2_18.start (ix3 a b h) g q + gather_S32x8_S128x128x1_S128x128x8_2_0_n_n_0_2_18.batchCoord (ix3 a b h) q
    + gather_S32x8_S128x128x1_S128x128x8_2_0_n_n_0_2_18.offCoord (ix3 a b h) q = _
  fin_cases q
  · show min (g (gather_S32x8_S128x128x1_S128x128x8_2_0_n_n_0_2_18.siIdx (ix3 a b h) ⟨0, by decide⟩)).toInt.toNat 31 + 0 + 0 = (k : ℕ)
    rw [row, hk, word, Nat.add_zero]
  · show 0 + 0 + (h : ℕ) = h
    omega

/-- The reference's result from its table. -/
def biasV (T : FVec Ideal S32x8 .f32) : FVec Ideal S8x2x128x128 .f32 :=
  mulf (transpose S8x2x128x128 [3, 0, 1, 2] (subf (concatenate S2x128x128x8 0
      [⟨S1x128x128x8, broadcastInDim S1x128x128x8 ![1, 2, 3] bcast_S128x128x8_S1x128x128x8_1_2_3 (Host.gather gather_S32x8_S128x128x1_S128x128x8_2_0_n_n_0_2_18 T (rowsV (bucketV nearV)))⟩,
       ⟨S1x128x128x8, broadcastInDim S1x128x128x8 ![1, 2, 3] bcast_S128x128x8_S1x128x128x8_1_2_3 (Host.gather gather_S32x8_S128x128x1_S128x128x8_2_0_n_n_0_2_18 T (rowsV (bucketV beforeV)))⟩]
      concatenates_S1x128x128x8_S1x128x128x8_S2x128x128x8_d0)
    (broadcastInDim S2x128x128x8 ![0, 1, 2, 3] bcast_S1x1x1x8_S2x128x128x8_0_1_2_3 (broadcastInDim S1x1x1x8 ![3] bcast_S8_S1x1x1x8_3 (shapeCast _ (extractStridedSlice S1x8 ![15, 0] T slices_S32x8_S1x8_15_0) shapeCasts_S1x8_S8))))
    transposes_S2x128x128x8_S8x2x128x128_3_0_1_2) (broadcastInDim S8x2x128x128 ![] bcast_S_S8x2x128x128 (constant S_ .f32 0x3FB8AA3B#32))

theorem biasV_at (T : FVec Ideal S32x8 .f32) (h : Fin 8) (w : Fin 2) (a b : Fin 128) :
    biasV T (ix4 h w a b) = (T (ix2 (bin a b w) h) - T (ix2 15 h)) * Ideal.ofBits .f32 0x3FB8AA3B#32 := by
  have e0 := gather_at T (rowsV (bucketV nearV)) a b h (bin a b 0) (rowsV_at _ a b _ (by rw [bucketV_at, nearV_at, bin_eq]))
  have e1 := gather_at T (rowsV (bucketV beforeV)) a b h (bin a b 1) (rowsV_at _ a b _ (by rw [bucketV_at, beforeV_at, bin_eq]))
  unfold biasV
  generalize Host.gather gather_S32x8_S128x128x1_S128x128x8_2_0_n_n_0_2_18 T (rowsV (bucketV nearV)) = G0 at e0 ⊢
  generalize Host.gather gather_S32x8_S128x128x1_S128x128x8_2_0_n_n_0_2_18 T (rowsV (bucketV beforeV)) = G1 at e1 ⊢
  pointwise
  fin_cases w
  · simp [e0]
  · simp [e1]

variable (m : (ℓ : Loc Cert.Kernel6Ideal.nD Cert.Kernel6Ideal.τ Cert.Kernel6Ideal.sig) → Buf (Elt Ideal) ℓ)
    (m' : (ℓ : Loc nD τ sig) → Buf (Elt Ideal) ℓ) (c : Dev nD)
    (h : m' (c.tc.loc main_arg0) = m (c.tc.loc Cert.Kernel6Ideal.main_arg0))
include h

/-- What the reference returns is what the kernel's run leaves. -/
theorem res_eq : res_out0 m' c = (Cert.Kernel6Ideal.Gen.dats m 0 c).arrAt 1 Cert.Kernel6Ideal.cfg0.N := by
  rw [Cert.Kernel6Ideal.Value.final m c]
  have e : res_out0 m' c = biasV (m' (c.tc.loc main_arg0)) := rfl
  rw [e, h]
  funext i
  rw [eq_ix4 i]
  exact biasV_at _ (i 0) (i 1) (i 2) (i 3)

end Cert.Reference6Ideal.Value
-- ==== Proof.FirstProj.lean ====
module
public import proofs.«01_k».proof.Proof.Gen.Kernel10Ideal.Value
public import proofs.«01_k».proof.Proof.ProjMath
public import Idealize.ShloMosaic.Lib.Pointwise
public import Idealize.ShloMosaic.Lib.Pipeline.ValueKit
public import Idealize.ShloMosaic.Lib.Pipeline.ReadBack
public import Idealize.ShloMosaic.Lib.Claim
@[expose] public section
/-! The first layer's input projection from the model's inputs: the stream before it, the blocks, the normed rows the scratch holds, and the result array. -/
set_option maxRecDepth 16384
noncomputable section
open Idealize.ShloMosaic Idealize.ShloMosaic.TcCoe Idealize.SL.Sem
open Idealize.ShloMosaic.Pipeline (Dat)
namespace Cert.Kernel10Ideal.Value
open Cert.Kernel10Ideal Cert.Kernel10Ideal.Gen Cert.Tail

theorem pay1_at (h : Vec Ideal S1x2080x1024 .f32) (w : Vec Ideal S1x1024 .f32) (r : Fin 2080) (d : Fin 1024) :
    k0_pay1 h w (ix2 r d) = rms (fun e => h (ix3 0 r e)) (fun e => w (ix2 0 e)) d := by
  pointwise! [k0_pay1, rms]

theorem pay3_at (u : Vec Ideal S2080x1024 .bf16) (w : Vec Ideal S1x1024x1408 .bf16) (r : Fin 2080) (k : Fin 1408) :
    k0_pay3 u w (ix3 0 r k) = ∑ e : Fin 1024, u (ix2 r e) * w (ix3 0 e k) := by
  pointwise! [k0_pay3, k0_pay2]

theorem pay4_at (u : Vec Ideal S2080x1024 .bf16) (w : Vec Ideal S1x1024x1408 .bf16) (r : Fin 2080) (k : Fin 128) :
    k0_pay4 u w (ix3 0 r k) = ∑ e : Fin 1024, u (ix2 r e) * w (ix3 0 e (⟨1280 + k, by omega⟩ : Fin 1408)) := by
  pointwise! [k0_pay4, k0_pay2]

variable (m : (ℓ : Loc nD τ sig) → Buf (Elt Ideal) ℓ)

theorem idx : ∀ t : Fin cfg0.N, win0_0.index t = ![t.val / 12, t.val / 3 % 4, 0]
    ∧ win0_1.index t = ![0, 0]
    ∧ win0_2.index t = ![0, 0, t.val % 3]
    ∧ win0_3.index t = ![t.val / 12, t.val / 3 % 4, t.val % 3]
    ∧ win0_4.index t = ![t.val / 12, t.val / 3 % 4, 0] :=
  (by decide +kernel : ∀ t : Fin grid0.N, _)

/-- The residual stream before the first layer: the padding, the meta rows, the inputs. -/
def embed (c : Dev nD) : FVec Ideal S2x8320x1024 .f32 :=
  concatenate S2x8320x1024 1 [⟨S2x112x1024, broadcastInDim S2x112x1024 ![] bcast_S_S2x112x1024 (constant (F := Ideal) S_ .f32 0x00000000#32)⟩,
    ⟨S2x16x1024, broadcastInDim S2x16x1024 ![0, 1, 2] bcast_S1x16x1024_S2x16x1024_0_1_2 (broadcastInDim S1x16x1024 ![1, 2] bcast_S16x1024_S1x16x1024_1_2 (m ((c : Thread nD τ).loc main_arg1)))⟩,
    ⟨S2x8192x1024, m ((c : Thread nD τ).loc main_arg0)⟩] concatenates_S2x112x1024_S2x16x1024_S2x8192x1024_S2x8320x1024_d1

theorem embed_eq (c : Dev nD) : V m c main_v3 = embed m c := by
  simp only [V, hostOps0, List.flatten_cons, List.flatten_nil, List.append_nil, List.cons_append, List.nil_append]
  after_results <;> rfl

theorem blk0 (c : Dev nD) (t : Fin cfg0.N) (b : Fin 2) (l : Fin 8320) (r : Fin 2080) (k : Fin 1024) (hb : (b : ℕ) = t.val / 12)
    (hl : (l : ℕ) = t.val / 3 % 4 * 2080 + r) :
    iblk m c 0 t (ix3 0 r k) = embed m c (ix3 b l k) := by
  rw [← embed_eq]
  blk_simp [iblk]
  refine congrArg _ (funext fun a => Fin.ext ?_)
  fin_cases a
  · show win0_0.index t 0 * 1 + 1 * 0 = (b : ℕ)
    rw [(idx t).1, hb]; simp
  · show win0_0.index t 1 * 2080 + 1 * (r : ℕ) = (l : ℕ)
    rw [(idx t).1, hl, one_mul]; rfl
  · show win0_0.index t 2 * 1024 + 1 * (k : ℕ) = (k : ℕ)
    rw [(idx t).1, one_mul]; simp
theorem blk1 (c : Dev nD) (t : Fin cfg0.N) (k : Fin 1024) :
    iblk m c 1 t (ix2 0 k) = m ((c : Thread nD τ).loc main_arg2) (ix2 0 k) := by
  blk_point [iblk, idx t]
/-- Entry `e`, `j` of the padded weights. -/
def wPad (c : Dev nD) (e : Fin 1024) (j : Fin 4224) : EReal :=
  if h : (j : ℕ) < 4112 then m ((c : Thread nD τ).loc main_arg3) (ix3 0 e (⟨j, h⟩ : Fin 4112)) else 0

theorem weights_eq (c : Dev nD) : V m c main_v6
    = truncf .bf16 (concatenate S2x1024x4224 2 [⟨S2x1024x4112, m ((c : Thread nD τ).loc main_arg3)⟩,
        ⟨S2x1024x112, broadcastInDim S2x1024x112 ![] bcast_S_S2x1024x112 (constant (F := Ideal) S_ .f32 0x00000000#32)⟩] concatenates_S2x1024x4112_S2x1024x112_S2x1024x4224_d2) bitsLt_bf16_f32 := by
  simp only [V, hostOps0, List.flatten_cons, List.flatten_nil, List.append_nil, List.cons_append, List.nil_append]
  after_results <;> rfl

theorem blk2 (c : Dev nD) (t : Fin cfg0.N) (e : Fin 1024) (k : Fin 1408) (j : Fin 4224) (hj : (j : ℕ) = t.val % 3 * 1408 + k) :
    iblk m c 2 t (ix3 0 e k) = wPad m c e j := by
  have q : iblk m c 2 t (ix3 0 e k) = V m c main_v6 (ix3 0 e j) := by
    blk_simp [iblk]
    refine congrArg _ (funext fun a => Fin.ext ?_)
    fin_cases a
    · show win0_2.index t 0 * 1 + 1 * 0 = 0
      rw [(idx t).2.2.1]; rfl
    · show win0_2.index t 1 * 1024 + 1 * (e : ℕ) = (e : ℕ)
      rw [(idx t).2.2.1, one_mul]; simp
    · show win0_2.index t 2 * 1408 + 1 * (k : ℕ) = (j : ℕ)
      rw [(idx t).2.2.1, hj, one_mul]; rfl
  rw [q, weights_eq, wPad]
  pointwise

/-- Row `l` of sequence `b` of the residual stream. -/
abbrev hRow (c : Dev nD) (b : Fin 2) (l : Fin 8320) : Row := fun k => embed m c (ix3 b l k)
/-- The norm's weights. -/
abbrev nW (c : Dev nD) : Row := fun k => m ((c : Thread nD τ).loc main_arg2) (ix2 0 k)

/-- The body's normed row, read from its blocks. -/
theorem pay1_row (c : Dev nD) (t : Fin cfg0.N) (b : Fin 2) (l : Fin 8320) (r : Fin 2080) (d : Fin 1024) (hb : (b : ℕ) = t.val / 12)
    (hl : (l : ℕ) = t.val / 3 % 4 * 2080 + r) :
    k0_pay1 (iblk m c 0 t) (iblk m c 1 t) (ix2 r d) = rms (hRow m c b l) (nW m c) d := by
  rw [pay1_at]
  simp only [blk0 m c t b l r _ hb hl, blk1]

/-- A block's first point norms its rows into the scratch. -/
theorem u_first (c : Dev nD) (t : Fin cfg0.N) (h0 : t.val % 3 = 0) :
    (outsAt0 m c t.val t.isLt).2.2 = k0_pay1 (iblk m c 0 t) (iblk m c 1 t) := by
  rw [outsAt0_A m c t h0 (by omega)]; frame_out

/-- Its later points keep the scratch. -/
theorem u_mid (c : Dev nD) (t : Fin cfg0.N) (h0 : ¬t.val % 3 = 0) :
    (outsAt0 m c t.val t.isLt).2.2 = (outsAt0 m c (t.val - 1) (Nat.lt_of_le_of_lt (Nat.sub_le _ _) t.isLt)).2.2 := by
  by_cases h1 : t.val % 3 = 2
  · rw [outsAt0_C m c t h0 h1]; rfl
  · rw [outsAt0_B m c t h0 h1]; rfl

/-- Every point multiplies what the scratch holds by its columns of the weights. -/
theorem out_eq (c : Dev nD) (t : Fin cfg0.N) :
    (outsAt0 m c t.val t.isLt).1 = k0_pay3 (outsAt0 m c t.val t.isLt).2.2 (iblk m c 2 t) := by
  by_cases h0 : t.val % 3 = 0
  · rw [u_first m c t h0, outsAt0_A m c t h0 (by omega)]; frame_out
  · rw [u_mid m c t h0]
    by_cases h1 : t.val % 3 = 2
    · rw [outsAt0_C m c t h0 h1]; frame_out
      simp only [read_unread_whole]
    · rw [outsAt0_B m c t h0 h1]; frame_out
      simp only [read_unread_whole]

/-- A block's last point also writes the last columns of its product. -/
theorem small_eq (c : Dev nD) (t : Fin cfg0.N) (h1 : t.val % 3 = 2) :
    (outsAt0 m c t.val t.isLt).2.1 = k0_pay4 (outsAt0 m c t.val t.isLt).2.2 (iblk m c 2 t) := by
  have h0 : ¬t.val % 3 = 0 := by omega
  rw [u_mid m c t h0, outsAt0_C m c t h0 h1]; frame_out
  simp only [read_unread_whole]

/-- At every point the scratch holds the block's rows, normed. -/
theorem u_at (c : Dev nD) (r : Fin 2080) (d : Fin 1024) (b : Fin 2) (l : Fin 8320) :
    ∀ (n : ℕ) (hn : n < cfg0.N), (b : ℕ) = n / 12 → (l : ℕ) = n / 3 % 4 * 2080 + r →
      (outsAt0 m c n hn).2.2 (ix2 r d) = rms (hRow m c b l) (nW m c) d := by
  intro n
  induction n with
  | zero =>
    intro hn hb hl
    rw [u_first m c ⟨0, hn⟩ (by simp only), pay1_row m c ⟨0, hn⟩ b l r d hb hl]
  | succ k ih =>
    intro hn hb hl
    by_cases h0 : (k + 1) % 3 = 0
    · rw [u_first m c ⟨k + 1, hn⟩ h0, pay1_row m c ⟨k + 1, hn⟩ b l r d hb hl]
    · have e := u_mid m c ⟨k + 1, hn⟩ h0
      simp only [Nat.add_sub_cancel] at e
      rw [e]
      exact ih (by omega) (by omega) (by omega)

/-- What the first result holds after the run. -/
def OUT (c : Dev nD) : FVec Ideal S2x8320x4224 .bf16 := fun i =>
  proj (hRow m c (i 0) (i 1)) (nW m c) (fun e => wPad m c e (i 2))

/-- What the second result holds after the run: the last columns once more. -/
def SMALL (c : Dev nD) : FVec Ideal S2x8320x128 .f32 := fun i =>
  proj (hRow m c (i 0) (i 1)) (nW m c) (fun e => wPad m c e ⟨4096 + (i 2 : ℕ), by have : (i 2 : ℕ) < 128 := (i 2).isLt; omega⟩)

theorem final (c : Dev nD) : (dats m 0 c).arrAt 3 cfg0.N = OUT m c := by
  refine (dats m 0 c).arrAt_eq_of_covers 3 _ (by decide +kernel) fun t hf y => ?_
  have hN : t.val < 24 := lt_of_lt_of_eq t.isLt N_0
  blk_simp
  rw [after0_3]
  idx_vars y
  obtain rfl : y0 = 0 := Subsingleton.elim _ _
  have hy1 := y1.isLt
  have hy2 := y2.isLt
  rw [out_eq, pay3_at]
  simp only [u_at m c y1 _ ⟨t.val / 12, by omega⟩ ⟨t.val / 3 % 4 * 2080 + y1, by omega⟩ t.val t.isLt rfl rfl,
    blk2 m c t _ y2 ⟨t.val % 3 * 1408 + y2, by omega⟩ rfl]
  show OUT m c (ix3 (⟨t.val / 12, by omega⟩ : Fin 2) (⟨t.val / 3 % 4 * 2080 + y1, by omega⟩ : Fin 8320) (⟨t.val % 3 * 1408 + y2, by omega⟩ : Fin 4224)) = _
  blk_ext [idx t]

theorem final_small (c : Dev nD) : (dats m 0 c).arrAt 4 cfg0.N = SMALL m c := by
  refine (dats m 0 c).arrAt_eq_of_covers 4 _ (by decide +kernel) fun t hf y => ?_
  have hN : t.val < 24 := lt_of_lt_of_eq t.isLt N_0
  have h1 := (flush0_4 t).mp hf
  blk_simp
  rw [after0_4]
  idx_vars y
  obtain rfl : y0 = 0 := Subsingleton.elim _ _
  have hy1 := y1.isLt
  have hy2 := y2.isLt
  rw [small_eq m c t h1, pay4_at]
  simp only [u_at m c y1 _ ⟨t.val / 12, by omega⟩ ⟨t.val / 3 % 4 * 2080 + y1, by omega⟩ t.val t.isLt rfl rfl,
    blk2 m c t _ ⟨1280 + y2, by omega⟩ ⟨4096 + y2, by omega⟩ (by simp only; omega)]
  show SMALL m c (ix3 (⟨t.val / 12, by omega⟩ : Fin 2) (⟨t.val / 3 % 4 * 2080 + y1, by omega⟩ : Fin 8320) y2) = _
  blk_ext [idx t]

end Cert.Kernel10Ideal.Value
-- ==== Proof.FirstProjEq.lean ====
module
public import proofs.«01_k».proof.Proof.Gen.Reference10Ideal.Run
public import proofs.«01_k».proof.Proof.FirstProj
public import Idealize.ShloMosaic.Lib.Pointwise
public import Idealize.ShloMosaic.Lib.Claim
@[expose] public section
/-! The first layer's input projection from the model's inputs as the reference computes it, and that the kernel's arrays are the same. -/
set_option maxRecDepth 16384
noncomputable section
open Idealize.ShloMosaic Idealize.ShloMosaic.TcCoe Idealize.SL.Sem
namespace Cert.Reference10Ideal.Value
open Cert.Reference10Ideal Cert.Reference10Ideal.Gen Cert.Tail

/-- The stream before the first layer: the padding, the meta rows, the inputs. -/
def embedV (X : FVec Ideal S2x8192x1024 .f32) (M : FVec Ideal S16x1024 .f32) : FVec Ideal S2x8320x1024 .f32 :=
  concatenate S2x8320x1024 1 [⟨S2x112x1024, broadcastInDim S2x112x1024 ![] bcast_S_S2x112x1024 (constant (F := Ideal) S_ .f32 0x00000000#32)⟩,
    ⟨S2x16x1024, broadcastInDim S2x16x1024 ![0, 1, 2] bcast_S1x16x1024_S2x16x1024_0_1_2 (broadcastInDim S1x16x1024 ![1, 2] bcast_S16x1024_S1x16x1024_1_2 M)⟩,
    ⟨S2x8192x1024, X⟩] concatenates_S2x112x1024_S2x16x1024_S2x8192x1024_S2x8320x1024_d1

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

/-- The layer's norm weights. -/
def nwV (W : FVec Ideal S4x1024 .f32) : FVec Ideal S1024 .f32 :=
  shapeCast _ (extractStridedSlice S1x1024 ![0, 0] W slices_S4x1024_S1x1024_0_0) shapeCasts_S1x1024_S1024

theorem nwV_at (W : FVec Ideal S4x1024 .f32) (d : Fin 1024) : nwV W (ix1 d) = W (ix2 0 d) := by
  pointwise [nwV]

/-- The product of the normed rows and the weights. -/
def dotV (X : FVec Ideal S2x8320x1024 .f32) (NW : FVec Ideal S4x1024 .f32) (W : FVec Ideal S2x1024x4112 .f32) : FVec Ideal S2x8320x4112 .f32 :=
  Host.dotGeneral dot_S2x8320x1024_S1024x4112_S2x8320x4112_2_0_01_1_n_n none (rmsV X (nwV NW)) (shapeCast _ (extractStridedSlice S1x1024x4112 ![0, 0, 0] W slices_S2x1024x4112_S1x1024x4112_0_0_0) shapeCasts_S1x1024x4112_S1024x4112)

theorem dotV_at (X : FVec Ideal S2x8320x1024 .f32) (NW : FVec Ideal S4x1024 .f32) (W : FVec Ideal S2x1024x4112 .f32) (b : Fin 2) (l : Fin 8320) (j : Fin 4112) :
    dotV X NW W (ix3 b l j) = proj (fun e => X (ix3 b l e)) (fun e => NW (ix2 0 e)) (fun e => W (ix3 0 e j)) := by
  have e : dotV X NW W (ix3 b l j) = ∑ e : Fin 1024, rmsV X (nwV NW) (ix3 b l e) * W (ix3 0 e j) := by
    pointwise! [dotV]
  rw [e, proj]
  simp only [rmsV_at, nwV_at]

/-- The product behind which 112 columns of zeros stand. -/
def padV (P : FVec Ideal S2x8320x4112 .f32) : FVec Ideal S2x8320x4224 .f32 :=
  pad S2x8320x4224 ![0, 0, 0] ![0, 0, 112] ![0, 0, 0] P (sitofp .f32 (constantI S_ 32 0#32)) pads_S2x8320x4112_S2x8320x4224_000_000_01120 h_S_

theorem padV_at (P : FVec Ideal S2x8320x4112 .f32) (b : Fin 2) (l : Fin 8320) (j : Fin 4224) :
    padV P (ix3 b l j) = if h : (j : ℕ) < 4112 then P (ix3 b l (⟨j, h⟩ : Fin 4112)) else 0 := by
  pointwise [padV]
  by_cases q : (j : ℕ) < 4112
  · simp only [dif_pos q]
  · simp only [dif_neg q, FloatOps.sitofp]
    simp

/-- The last columns. -/
def lastV (P : FVec Ideal S2x8320x4224 .f32) : FVec Ideal S2x8320x128 .f32 :=
  extractStridedSlice S2x8320x128 ![0, 0, 4096] P slices_S2x8320x4224_S2x8320x128_0_0_4096

theorem lastV_at (P : FVec Ideal S2x8320x4224 .f32) (b : Fin 2) (l : Fin 8320) (j : Fin 128) :
    lastV P (ix3 b l j) = P (ix3 b l (⟨4096 + j, by omega⟩ : Fin 4224)) := by
  pointwise [lastV]

/-- A zero column's product is zero. -/
theorem proj_pad (h nw : Row) (W : Fin 1024 → Fin 4112 → EReal) (j : Fin 4224) :
    (if q : (j : ℕ) < 4112 then proj h nw (fun e => W e ⟨j, q⟩) else 0)
      = proj h nw (fun e => if q : (j : ℕ) < 4112 then W e ⟨j, q⟩ else 0) := by
  by_cases q : (j : ℕ) < 4112
  · simp only [dif_pos q]
  · simp only [dif_neg q, proj, mul_zero, Finset.sum_const_zero]

variable (m : (ℓ : Loc Cert.Kernel10Ideal.nD Cert.Kernel10Ideal.τ Cert.Kernel10Ideal.sig) → Buf (Elt Ideal) ℓ)
    (m' : (ℓ : Loc nD τ sig) → Buf (Elt Ideal) ℓ) (c : Dev nD)
    (h : m' (c.tc.loc main_arg0) = m (c.tc.loc Cert.Kernel10Ideal.main_arg0)
      ∧ m' (c.tc.loc main_arg1) = m (c.tc.loc Cert.Kernel10Ideal.main_arg1)
      ∧ m' (c.tc.loc main_arg2) = m (c.tc.loc Cert.Kernel10Ideal.main_arg2)
      ∧ m' (c.tc.loc main_arg3) = m (c.tc.loc Cert.Kernel10Ideal.main_arg3))
include h

theorem pad_at (b : Fin 2) (l : Fin 8320) (j : Fin 4224) :
    padV (dotV (embedV (m' (c.tc.loc main_arg0)) (m' (c.tc.loc main_arg1))) (m' (c.tc.loc main_arg2)) (m' (c.tc.loc main_arg3))) (ix3 b l j)
      = proj (Cert.Kernel10Ideal.Value.hRow m c b l) (Cert.Kernel10Ideal.Value.nW m c) (fun e => Cert.Kernel10Ideal.Value.wPad m c e j) := by
  obtain ⟨h0, h1, h2, h3⟩ := h
  rw [padV_at]
  simp only [dotV_at, h0, h1, h2, h3]
  exact proj_pad (fun e => Cert.Kernel10Ideal.Value.embed m c (ix3 b l e)) (fun e => m (c.tc.loc Cert.Kernel10Ideal.main_arg2) (ix2 0 e)) (fun e k => m (c.tc.loc Cert.Kernel10Ideal.main_arg3) (ix3 0 e k)) j

/-- What the reference returns first is what the kernel's run leaves. -/
theorem res_eq : truncf .bf16 (padV (dotV (embedV (m' (c.tc.loc main_arg0)) (m' (c.tc.loc main_arg1))) (m' (c.tc.loc main_arg2)) (m' (c.tc.loc main_arg3)))) bitsLt_bf16_f32
    = (Cert.Kernel10Ideal.Gen.dats m 0 c).arrAt 3 Cert.Kernel10Ideal.cfg0.N := by
  rw [Cert.Kernel10Ideal.Value.final m c]
  funext i
  rw [eq_ix3 i]
  exact pad_at m m' c h (i 0) (i 1) (i 2)

/-- And second. -/
theorem small_eq : lastV (padV (dotV (embedV (m' (c.tc.loc main_arg0)) (m' (c.tc.loc main_arg1))) (m' (c.tc.loc main_arg2)) (m' (c.tc.loc main_arg3))))
    = (Cert.Kernel10Ideal.Gen.dats m 0 c).arrAt 4 Cert.Kernel10Ideal.cfg0.N := by
  rw [Cert.Kernel10Ideal.Value.final_small m c]
  funext i
  rw [eq_ix3 i]
  exact (lastV_at _ (i 0) (i 1) (i 2)).trans (pad_at m m' c h (i 0) (i 1) _)

end Cert.Reference10Ideal.Value
-- ==== Proof.Layer1Blocks.lean ====
module
public import proofs.«01_k».proof.Proof.Gen.Kernel7Ideal.Value
public import proofs.«01_k».proof.Proof.TailMath
public import Idealize.ShloMosaic.Lib.Pointwise
public import Idealize.ShloMosaic.Lib.Pipeline.ValueKit
public import Idealize.ShloMosaic.Lib.Claim
public import Idealize.ShloMosaic.Lib.WordCmp
@[expose] public section
/-! The end of layer 1: where each window's block lies in its array, and what the body's expressions are at an index. -/
set_option maxRecDepth 16384
noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen Cert.Tail

/-! ## The body's expressions -/

theorem pay1_at (u : Vec Ideal S1040x1024 .bf16) (w1 : Vec Ideal S1x1024x1024 .bf16) (acc : Vec Ideal S1040x1024 .f32)
    (w2 : Vec Ideal S1x1024x1024 .bf16) (r : Fin 1040) (d : Fin 1024) :
    k0_pay1 u w1 acc w2 (ix2 r d)
      = acc (ix2 r d) + ∑ k : Fin 1024, act (fun e => u (ix2 r e)) (fun e => w1 (ix3 0 e k)) * w2 (ix3 0 k d) := by
  pointwise! [k0_pay1, act]

/-- The body's test of a row's position, block `n`, row `k`. -/
theorem word_at (n k : ℕ) (hn : n < 8) (hk : k < 1040) :
    IntOp.cmpi .sge (IntOp.addi (Scalar.muli (BitVec.ofNat 32 n) 1040#32) (BitVec.ofNat 32 k)) 112#32
      = if 112 ≤ n * 1040 + k then 1#1 else 0#1 :=
  WordCmp.cmpi_sge_mul_add_ofNat n 1040 k 112 (by omega) (by omega)

/-- What the body selects by that test. -/
theorem select_at (n k : ℕ) (hn : n < 8) (hk : k < 1040) (x : EReal) :
    Scalar.select (IntOp.cmpi .sge (IntOp.addi (Scalar.muli (BitVec.ofNat 32 n) 1040#32) (BitVec.ofNat 32 k)) 112#32) x 0
      = keep (n * 1040 + k) x := by
  rw [word_at n k hn hk, keep]
  split <;> rfl

theorem pay2_at (i : grid0.Coords) (hs acc : Vec Ideal S1040x1024 .f32) (r : Fin 1040) (d : Fin 1024) :
    k0_pay2 i hs acc (ix3 0 r d) = hs (ix2 r d) + keep (i 1 * 1040 + (r : ℕ)) (acc (ix2 r d)) := by
  pointwise [k0_pay2]
  rw [select_at _ _ (i 1).isLt r.isLt]

/-! ## The blocks -/

variable (m : (ℓ : Loc nD τ sig) → Buf (Elt Ideal) ℓ)

theorem idx : ∀ t : Fin cfg0.N, win0_0.index t = ![t.val / 32, t.val / 4 % 8, 0]
    ∧ win0_1.index t = ![0, 0, 0]
    ∧ win0_2.index t = ![t.val / 32, t.val / 4 % 8, 0]
    ∧ win0_3.index t = ![0, 0]
    ∧ win0_4.index t = ![1, 0, t.val % 4]
    ∧ win0_5.index t = ![1, t.val % 4, 0]
    ∧ win0_7.index t = ![t.val / 32, t.val / 4 % 8, 0]
    ∧ (grid0.coords t 1 : ℕ) = t.val / 4 % 8 :=
  (by decide +kernel : ∀ t : Fin grid0.N, _)

theorem blk0 (c : Dev nD) (t : Fin cfg0.N) (b : Fin 2) (l : Fin 8320) (r : Fin 1040) (k : Fin 1024) (hb : (b : ℕ) = t.val / 32)
    (hl : (l : ℕ) = t.val / 4 % 8 * 1040 + r) :
    iblk m c 0 t (ix3 0 r k) = m ((c : Thread nD τ).loc main_arg0) (ix3 b l k) := by
  blk_point [iblk, idx t]
theorem blk2 (c : Dev nD) (t : Fin cfg0.N) (b : Fin 2) (l : Fin 8320) (r : Fin 1040) (k : Fin 1024) (hb : (b : ℕ) = t.val / 32)
    (hl : (l : ℕ) = t.val / 4 % 8 * 1040 + r) :
    iblk m c 2 t (ix3 0 r k) = m ((c : Thread nD τ).loc main_arg1) (ix3 b l k) := by
  blk_point [iblk, idx t]
theorem blk1 (c : Dev nD) (t : Fin cfg0.N) (r k : Fin 1024) :
    iblk m c 1 t (ix3 0 r k) = m ((c : Thread nD τ).loc main_arg3) (ix3 0 r k) := by
  blk_point [iblk, idx t]
theorem blk3 (c : Dev nD) (t : Fin cfg0.N) (k : Fin 1024) :
    iblk m c 3 t (ix2 0 k) = m ((c : Thread nD τ).loc main_arg2) (ix2 1 k) := by
  blk_point [iblk, idx t]
theorem blk4 (c : Dev nD) (t : Fin cfg0.N) (s : Fin 4) (hs : (s : ℕ) = t.val % 4) (e k : Fin 1024) :
    iblk m c 4 t (ix3 0 e k) = m ((c : Thread nD τ).loc main_arg4) (ix3 1 e (unit s k)) := by
  have hj : ((unit s k : Fin 4096) : ℕ) = t.val % 4 * 1024 + k := by rw [← hs]; rfl
  blk_point [iblk, idx t]
theorem blk5 (c : Dev nD) (t : Fin cfg0.N) (s : Fin 4) (hs : (s : ℕ) = t.val % 4) (k d : Fin 1024) :
    iblk m c 5 t (ix3 0 k d) = m ((c : Thread nD τ).loc main_arg5) (ix3 1 (unit s k) d) := by
  have hj : ((unit s k : Fin 4096) : ℕ) = t.val % 4 * 1024 + k := by rw [← hs]; rfl
  blk_point [iblk, idx t]

/-! ## The rows of the arguments -/

/-- Row `l` of sequence `b` of the mixer's output. -/
abbrev yRow (c : Dev nD) (b : Fin 2) (l : Fin 8320) : Row := fun k => m ((c : Thread nD τ).loc main_arg0) (ix3 b l k)
/-- Row `l` of sequence `b` of the residual stream. -/
abbrev hRow (c : Dev nD) (b : Fin 2) (l : Fin 8320) : Row := fun k => m ((c : Thread nD τ).loc main_arg1) (ix3 b l k)
/-- The output projection of the layer. -/
abbrev wOut (c : Dev nD) : Fin 1024 → Row := fun k d => m ((c : Thread nD τ).loc main_arg3) (ix3 0 k d)
/-- The norm weights of the feed-forward block. -/
abbrev nW (c : Dev nD) : Row := fun k => m ((c : Thread nD τ).loc main_arg2) (ix2 1 k)
/-- The first feed-forward weights. -/
abbrev w1M (c : Dev nD) : Fin 1024 → Fin 4096 → EReal := fun e j => m ((c : Thread nD τ).loc main_arg4) (ix3 1 e j)
/-- The second feed-forward weights. -/
abbrev w2M (c : Dev nD) : Fin 4096 → Row := fun j d => m ((c : Thread nD τ).loc main_arg5) (ix3 1 j d)
/-- The row after the mixer's residual. -/
abbrev mixRow (c : Dev nD) (b : Fin 2) (l : Fin 8320) : Row := mix l (hRow m c b l) (yRow m c b l) (wOut m c)
/-- That row, normed. -/
abbrev uRow (c : Dev nD) (b : Fin 2) (l : Fin 8320) : Row := rms (mixRow m c b l) (nW m c)

end Cert.Kernel7Ideal.Value
-- ==== Proof.Layer1Points.lean ====
module
public import proofs.«01_k».proof.Proof.Layer1Blocks
public import Idealize.ShloMosaic.Lib.Pipeline.ReadBack
@[expose] public section
/-! The end of layer 1: what the scratch buffers and the output block hold after each grid point. -/
set_option maxRecDepth 16384
noncomputable section
open Idealize.ShloMosaic Idealize.ShloMosaic.TcCoe Idealize.SL.Sem
open Idealize.ShloMosaic.Pipeline (Dat)
namespace Cert.Kernel7Ideal.Value
open Cert.Kernel7Ideal Cert.Kernel7Ideal.Gen Cert.Tail
variable (m : (ℓ : Loc nD τ sig) → Buf (Elt Ideal) ℓ)

/-- Row `q` of the residual block plus its projection, as the body computes it from its blocks. -/
def mixBlk (c : Dev nD) (t : Fin cfg0.N) (q : Fin 1040) : Row := fun d =>
  (show EReal from iblk m c 2 t (ix3 0 q d))
    + Scalar.select (IntOp.cmpi .sge (IntOp.addi (Scalar.muli (BitVec.ofNat 32 (grid0.coords t 1 : ℕ)) 1040#32) (BitVec.ofNat 32 (q : ℕ))) 112#32)
        (∑ k : Fin 1024, (show EReal from iblk m c 0 t (ix3 0 q k)) * (show EReal from iblk m c 1 t (ix3 0 k d))) (0 : EReal)

/-- The norm weights' block. -/
def nBlk (c : Dev nD) (t : Fin cfg0.N) : Row := fun d => iblk m c 3 t (ix2 0 d)

/-- That row, read from the arrays. -/
theorem mixBlk_eq (c : Dev nD) (t : Fin cfg0.N) (b : Fin 2) (l : Fin 8320) (q : Fin 1040)
    (hb : (b : ℕ) = t.val / 32) (hl : (l : ℕ) = t.val / 4 % 8 * 1040 + q) : mixBlk m c t q = mixRow m c b l := by
  funext d
  rw [mixRow, mix, mixBlk, select_at _ _ (grid0.coords t 1).isLt q.isLt, (idx t).2.2.2.2.2.2.2, ← hl]
  simp only [blk0 m c t b l q _ hb hl, blk1, blk2 m c t b l q _ hb hl]

theorem nBlk_eq (c : Dev nD) (t : Fin cfg0.N) : nBlk m c t = nW m c := funext fun d => blk3 m c t d

/-- At a first point the residual scratch holds the rows after the mixer. -/
theorem hs_first (c : Dev nD) (t : Fin cfg0.N) (g0 : t.val % 4 = 0) (g1 : ¬t.val % 4 = 3) (r : Fin 1040) (d : Fin 1024) :
    (outsAt0 m c t.val t.isLt).2.2.1 (ix2 r d) = mixBlk m c t r d := by
  rw [outsAt0_A m c t g0 g1]; frame_out
  canon_tiles x h
  all_goals
    idx_vars x
    obtain rfl : x1 = d := (Fin.ext h1).symm
    open_payloads
    pointwise
    refine Eq.trans (b := mixBlk m c t ⟨_, _⟩ x1) rfl (congrArg (fun q => mixBlk m c t q x1) (Fin.ext h0.symm))

/-- There the normed scratch holds those rows, normed. -/
theorem u_first (c : Dev nD) (t : Fin cfg0.N) (g0 : t.val % 4 = 0) (g1 : ¬t.val % 4 = 3) (r : Fin 1040) (d : Fin 1024) :
    (outsAt0 m c t.val t.isLt).2.1 (ix2 r d) = rms (mixBlk m c t r) (nBlk m c t) d := by
  rw [outsAt0_A m c t g0 g1]; frame_out
  canon_tiles x h
  all_goals
    idx_vars x
    obtain rfl : x1 = d := (Fin.ext h1).symm
    open_payloads
    pointwise
    refine Eq.trans (b := rms (mixBlk m c t ⟨_, _⟩) (nBlk m c t) x1) rfl (congrArg (fun q => rms (mixBlk m c t q) (nBlk m c t) x1) (Fin.ext h0.symm))

/-- There the accumulator is the first group's part, from the normed scratch. -/
theorem acc_first (c : Dev nD) (t : Fin cfg0.N) (h0 : t.val % 4 = 0) (h1 : ¬t.val % 4 = 3) :
    (outsAt0 m c t.val t.isLt).2.2.2
      = k0_pay1 (outsAt0 m c t.val t.isLt).2.1 (iblk m c 4 t) (k0_pay21 (F := Ideal)) (iblk m c 5 t) := by
  rw [outsAt0_A m c t h0 h1]; frame_out
  rw [View.readCov_eq_canon']
  refine congrArg (fun u => k0_pay1 u (iblk m c 4 t) (k0_pay21 (F := Ideal)) (iblk m c 5 t)) (funext fun j => congrArg _ ?_)
  funext a
  fin_cases a
  · exact Fin.ext (by show 0 + 1 * (j 0 : ℕ) = _; rw [zero_add, one_mul]; rfl)
  · exact Fin.ext (by show 0 + 1 * (j 1 : ℕ) = _; rw [zero_add, one_mul]; rfl)

/-- Later points of a block keep the normed scratch. -/
theorem u_mid (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

/-- Later points of a block keep the residual scratch. -/
theorem hs_mid (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1 := by
  by_cases h1 : t.val % 4 = 3
  · rw [outsAt0_C m c t h0 h1]; rfl
  · rw [outsAt0_B m c t h0 h1]; rfl

/-- Later points of a block add their group to the accumulator. -/
theorem acc_mid (c : Dev nD) (t : Fin cfg0.N) (h0 : ¬t.val % 4 = 0) :
    (outsAt0 m c t.val t.isLt).2.2.2
      = k0_pay1 (outsAt0 m c t.val t.isLt).2.1 (iblk m c 4 t)
          (outsAt0 m c (t.val - 1) (Nat.lt_of_le_of_lt (Nat.sub_le _ _) t.isLt)).2.2.2 (iblk m c 5 t) := by
  rw [u_mid m c t h0]
  by_cases h1 : t.val % 4 = 3
  · rw [outsAt0_C m c t h0 h1]; frame_out
    simp only [read_unread_whole]
  · rw [outsAt0_B m c t h0 h1]; frame_out
    simp only [read_unread_whole]

/-- A block's last point writes out the residual plus the kept feed-forward rows. -/
theorem out_last (c : Dev nD) (t : Fin cfg0.N) (h1 : t.val % 4 = 3) :
    (outsAt0 m c t.val t.isLt).1
      = k0_pay2 (grid0.coords t) (outsAt0 m c t.val t.isLt).2.2.1 (outsAt0 m c t.val t.isLt).2.2.2 := by
  have h0 : ¬t.val % 4 = 0 := by omega
  rw [hs_mid m c t h0, acc_mid m c t h0, u_mid m c t h0, outsAt0_C m c t h0 h1]; frame_out
  simp only [read_unread_whole]

/-- At each point the group's part is the group's share of the feed-forward block. -/
theorem pay1_row (c : Dev nD) (t : Fin cfg0.N) (s : Fin 4) (hs : (s : ℕ) = t.val % 4) (u : Vec Ideal S1040x1024 .bf16)
    (acc : Vec Ideal S1040x1024 .f32) (r : Fin 1040) (d : Fin 1024) :
    k0_pay1 u (iblk m c 4 t) acc (iblk m c 5 t) (ix2 r d)
      = acc (ix2 r d) + group (fun e => u (ix2 r e)) (w1M m c) (w2M m c) s d := by
  rw [pay1_at, group]
  simp only [blk4 m c t s hs, blk5 m c t s hs]

theorem pay21_at (j : S1040x1024.Idx) : k0_pay21 (F := Ideal) j = 0 := by pointwise [k0_pay21]

/-- What the output block holds after a block's last point. -/
theorem out_at (c : Dev nD) (t : Fin cfg0.N) (h1 : t.val % 4 = 3) (b : Fin 2) (l : Fin 8320) (r : Fin 1040) (d : Fin 1024)
    (hb : (b : ℕ) = t.val / 32) (hl : (l : ℕ) = t.val / 4 % 8 * 1040 + r) :
    (outsAt0 m c t.val t.isLt).1 (ix3 0 r d)
      = tail l (hRow m c b l) (yRow m c b l) (wOut m c) (nW m c) (w1M m c) (w2M m c) d := by
  have hN : t.val < 64 := lt_of_lt_of_eq t.isLt N_0
  obtain ⟨n, hn⟩ := t
  simp only at h1 hb hl hN ⊢
  have hn0 : n - 1 - 1 - 1 < cfg0.N := by omega
  have g0 : (n - 1 - 1 - 1) % 4 = 0 := by omega
  have U0 : ∀ e, (outsAt0 m c (n - 1 - 1 - 1) hn0).2.1 (ix2 r e) = uRow m c b l e := fun e => by
    rw [u_first m c ⟨n - 1 - 1 - 1, hn0⟩ g0 (by simp only; omega) r e, nBlk_eq, mixBlk_eq m c _ b l r (by simp only; omega) (by simp only; omega)]
  have H0 : ∀ e, (outsAt0 m c (n - 1 - 1 - 1) hn0).2.2.1 (ix2 r e) = mixRow m c b l e := fun e => by
    rw [hs_first m c ⟨n - 1 - 1 - 1, hn0⟩ g0 (by simp only; omega) r e, mixBlk_eq m c _ b l r (by simp only; omega) (by simp only; omega)]
  have A0 := acc_first m c ⟨n - 1 - 1 - 1, hn0⟩ g0 (by simp only; omega)
  have u1 := u_mid m c ⟨n - 1 - 1, by omega⟩ (by simp only; omega)
  have u2 := u_mid m c ⟨n - 1, by omega⟩ (by simp only; omega)
  have u3 := u_mid m c ⟨n, hn⟩ (by simp only; omega)
  have s1 := hs_mid m c ⟨n - 1 - 1, by omega⟩ (by simp only; omega)
  have s2 := hs_mid m c ⟨n - 1, by omega⟩ (by simp only; omega)
  have s3 := hs_mid m c ⟨n, hn⟩ (by simp only; omega)
  have a1 := acc_mid m c ⟨n - 1 - 1, by omega⟩ (by simp only; omega)
  have a2 := acc_mid m c ⟨n - 1, by omega⟩ (by simp only; omega)
  have a3 := acc_mid m c ⟨n, hn⟩ (by simp only; omega)
  have O := out_last m c ⟨n, hn⟩ h1
  simp only at A0 u1 u2 u3 s1 s2 s3 a1 a2 a3 O
  have ACC : ∀ e, (outsAt0 m c n hn).2.2.2 (ix2 r e) = ffn (uRow m c b l) (w1M m c) (w2M m c) e := fun e => by
    rw [a3, pay1_row m c ⟨n, hn⟩ 3 (by simp only; omega), a2, pay1_row m c ⟨n - 1, by omega⟩ 2 (by simp only; omega), a1,
      pay1_row m c ⟨n - 1 - 1, by omega⟩ 1 (by simp only; omega), A0, pay1_row m c ⟨n - 1 - 1 - 1, hn0⟩ 0 (by simp only; omega),
      u3, u2, u1, pay21_at]
    simp only [U0]
    exact groups _ _ _ _
  rw [O, pay2_at]
  simp only [ACC, s3, s2, s1, H0]
  rw [tail, (idx ⟨n, hn⟩).2.2.2.2.2.2.2]
  simp only [← hl]

/-- What the result array holds after the run. -/
def OUT (c : Dev nD) : FVec Ideal S2x8320x1024 .f32 := fun i =>
  tail (i 1 : ℕ) (hRow m c (i 0) (i 1)) (yRow m c (i 0) (i 1)) (wOut m c) (nW m c) (w1M m c) (w2M m c) (i 2)

theorem final (c : Dev nD) : (dats m 0 c).arrAt 7 cfg0.N = OUT m c := by
  refine (dats m 0 c).arrAt_eq_of_covers 7 _ (by decide +kernel) fun t hf y => ?_
  have h1 := (flush0_7 t).mp hf
  have hN : t.val < 64 := lt_of_lt_of_eq t.isLt N_0
  blk_simp
  rw [after0_7]
  idx_vars y
  obtain rfl : y0 = 0 := Subsingleton.elim _ _
  have hy1 := y1.isLt
  refine (out_at m c t h1 ⟨t.val / 32, by omega⟩ ⟨t.val / 4 % 8 * 1040 + y1, by omega⟩ y1 y2 rfl rfl).trans ?_
  show OUT m c (ix3 (⟨t.val / 32, by omega⟩ : Fin 2) (⟨t.val / 4 % 8 * 1040 + y1, by omega⟩ : Fin 8320) y2) = _
  blk_ext [idx t]

end Cert.Kernel7Ideal.Value
-- ==== Proof.Layer1Ref.lean ====
module
public import proofs.«01_k».proof.Proof.Gen.Reference7Ideal.Run
public import proofs.«01_k».proof.Proof.TailMath
public import Idealize.ShloMosaic.Lib.Pointwise
public import Idealize.ShloMosaic.Lib.Claim
public import Idealize.ShloMosaic.Lib.WordCmp
@[expose] public section
/-! The end of layer 1 as the reference computes it: its whole-array stages, each read at one row. -/
set_option maxRecDepth 16384
noncomputable section
open Idealize.ShloMosaic Idealize.ShloMosaic.TcCoe Idealize.SL.Sem
namespace Cert.Reference7Ideal.Value
open Cert.Reference7Ideal Cert.Reference7Ideal.Gen Cert.Tail

/-- One at the rows after the front padding, zero at the padded rows. -/
def keepV : FVec Ideal S1x8320x1 .f32 :=
  uitofp .f32 (broadcastInDim S1x8320x1 ![1] bcast_S8320_S1x8320x1_1 (cmpi .sge (iotaInDim S8320 32 0) (broadcastInDim S8320 ![] bcast_S_S8320 (constantI S_ 32 112#32))))

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

/-- The mixer's residual. -/
def mixV (Y : FVec Ideal S2x8320x1024 .bf16) (H : FVec Ideal S2x8320x1024 .f32) (WO : FVec Ideal S1x1024x1024 .f32) : FVec Ideal S2x8320x1024 .f32 :=
  addf H (mulf (broadcastInDim S2x8320x1024 ![0, 1, 2] bcast_S1x8320x1_S2x8320x1024_0_1_2 keepV) (Host.dotGeneral dot_S2x8320x1024_S1024x1024_S2x8320x1024_2_0_01_1_n_n none (extf .f32 Y bitsLt_bf16_f32) (shapeCast _ WO shapeCasts_S1x1024x1024_S1024x1024)))

/-- The hidden units before their activation. -/
def hidV (U : FVec Ideal S2x8320x1024 .f32) (W1 : FVec Ideal S4x1024x4096 .f32) : FVec Ideal S2x8320x4096 .f32 :=
  maximumf (Host.dotGeneral dot_S2x8320x1024_S1024x4096_S2x8320x4096_2_0_01_1_n_n none U (shapeCast _ (extractStridedSlice S1x1024x4096 ![1, 0, 0] W1 slices_S4x1024x4096_S1x1024x4096_1_0_0) shapeCasts_S1x1024x4096_S1024x4096)) (broadcastInDim S2x8320x4096 ![] bcast_S_S2x8320x4096 (constant S_ .f32 0x00000000#32))

/-- The feed-forward residual. -/
def tailV (X : FVec Ideal S2x8320x1024 .f32) (A : FVec Ideal S2x8320x4096 .f32) (W2 : FVec Ideal S4x4096x1024 .f32) : FVec Ideal S2x8320x1024 .f32 :=
  addf X (mulf (broadcastInDim S2x8320x1024 ![0, 1, 2] bcast_S1x8320x1_S2x8320x1024_0_1_2 keepV) (Host.dotGeneral dot_S2x8320x4096_S4096x1024_S2x8320x1024_2_0_01_1_n_n none (mulf A A) (shapeCast _ (extractStridedSlice S1x4096x1024 ![1, 0, 0] W2 slices_S4x4096x1024_S1x4096x1024_1_0_0) shapeCasts_S1x4096x1024_S4096x1024)))

theorem keepV_mul (l : Fin 8320) (x : EReal) : keepV (ix3 0 l 0) * x = keep l x := by
  have hl := l.isLt
  pointwise [keepV]
  rw [WordCmp.cmpi_sge_ofNat (by omega) (by omega)]
  by_cases h : 112 ≤ (l : ℕ)
  · rw [keep, if_pos h, decide_eq_true h]
    have : (FloatOps.uitofp FTy.f32 (BitVec.ofBool true) : Ideal .f32) = (1 : EReal) := by
      simp [FloatOps.uitofp]
    rw [this, one_mul]
  · rw [keep, if_neg h, decide_eq_false h]
    have : (FloatOps.uitofp FTy.f32 (BitVec.ofBool false) : Ideal .f32) = (0 : EReal) := by
      simp [FloatOps.uitofp]
    rw [this, zero_mul]

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

theorem mixV_at (Y : FVec Ideal S2x8320x1024 .bf16) (H : FVec Ideal S2x8320x1024 .f32) (WO : FVec Ideal S1x1024x1024 .f32) (b : Fin 2) (l : Fin 8320)
    (d : Fin 1024) :
    mixV Y H WO (ix3 b l d) = mix l (fun e => H (ix3 b l e)) (fun e => Y (ix3 b l e)) (fun e d => WO (ix3 0 e d)) d := by
  rw [mix, ← keepV_mul]
  pointwise! [mixV]

theorem hidV_at (U : FVec Ideal S2x8320x1024 .f32) (W1 : FVec Ideal S4x1024x4096 .f32) (b : Fin 2) (l : Fin 8320) (j : Fin 4096) :
    hidV U W1 (ix3 b l j) = max (∑ e : Fin 1024, U (ix3 b l e) * W1 (ix3 1 e j)) 0 := by
  pointwise! [hidV]

theorem tailV_at (X : FVec Ideal S2x8320x1024 .f32) (A : FVec Ideal S2x8320x4096 .f32) (W2 : FVec Ideal S4x4096x1024 .f32) (b : Fin 2) (l : Fin 8320)
    (d : Fin 1024) :
    tailV X A W2 (ix3 b l d) = X (ix3 b l d) + keep l (∑ j : Fin 4096, A (ix3 b l j) * A (ix3 b l j) * W2 (ix3 1 j d)) := by
  rw [← keepV_mul]
  pointwise! [tailV]

variable (m : (ℓ : Loc nD τ sig) → Buf (Elt Ideal) ℓ)

/-- The reference's stream after the layer. -/
def streamV (c : Dev nD) : FVec Ideal S2x8320x1024 .f32 :=
  let X := mixV (m ((c.tc : Thread nD τ).loc main_arg0)) (m ((c.tc : Thread nD τ).loc main_arg1)) (m ((c.tc : Thread nD τ).loc main_arg3))
  tailV X (hidV (rmsV X (shapeCast _ (extractStridedSlice S1x1024 ![1, 0] (m ((c.tc : Thread nD τ).loc main_arg2)) slices_S4x1024_S1x1024_1_0) shapeCasts_S1x1024_S1024)) (m ((c.tc : Thread nD τ).loc main_arg4))) (m ((c.tc : Thread nD τ).loc main_arg5))

theorem res_eq (c : Dev nD) : res_out0 m c = streamV m c := rfl

theorem streamV_at (c : Dev nD) (b : Fin 2) (l : Fin 8320) (d : Fin 1024) :
    streamV m c (ix3 b l d)
      = tail l (fun k => m ((c.tc : Thread nD τ).loc main_arg1) (ix3 b l k)) (fun k => m ((c.tc : Thread nD τ).loc main_arg0) (ix3 b l k))
          (fun k d => m ((c.tc : Thread nD τ).loc main_arg3) (ix3 0 k d)) (fun k => m ((c.tc : Thread nD τ).loc main_arg2) (ix2 1 k))
          (fun e j => m ((c.tc : Thread nD τ).loc main_arg4) (ix3 1 e j)) (fun j d => m ((c.tc : Thread nD τ).loc main_arg5) (ix3 1 j d)) d := by
  rw [streamV, tailV_at, tail, ffn]
  simp only [hidV_at, rmsV_at, mixV_at, act]
  pointwise!

end Cert.Reference7Ideal.Value
-- ==== Proof.Layer1Eq.lean ====
module
public import proofs.«01_k».proof.Proof.Layer1Points
public import proofs.«01_k».proof.Proof.Layer1Ref
@[expose] public section
/-! The end of layer 1: the kernel's array is the reference's. -/
set_option maxRecDepth 16384
noncomputable section
open Idealize.ShloMosaic Idealize.ShloMosaic.TcCoe Idealize.SL.Sem
namespace Cert.Tail

/-- On memories that agree on the arguments, what the reference returns is what the kernel's run leaves. -/
theorem layer1_eq (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD)
    (h : m' (c.tc.loc Cert.Reference7Ideal.main_arg0) = m (c.tc.loc Cert.Kernel7Ideal.main_arg0)
      ∧ m' (c.tc.loc Cert.Reference7Ideal.main_arg1) = m (c.tc.loc Cert.Kernel7Ideal.main_arg1)
      ∧ m' (c.tc.loc Cert.Reference7Ideal.main_arg2) = m (c.tc.loc Cert.Kernel7Ideal.main_arg2)
      ∧ m' (c.tc.loc Cert.Reference7Ideal.main_arg3) = m (c.tc.loc Cert.Kernel7Ideal.main_arg3)
      ∧ m' (c.tc.loc Cert.Reference7Ideal.main_arg4) = m (c.tc.loc Cert.Kernel7Ideal.main_arg4)
      ∧ m' (c.tc.loc Cert.Reference7Ideal.main_arg5) = m (c.tc.loc Cert.Kernel7Ideal.main_arg5)) :
    Cert.Reference7Ideal.Value.res_out0 m' c = (Cert.Kernel7Ideal.Gen.dats m 0 c).arrAt 7 Cert.Kernel7Ideal.cfg0.N := by
  rw [Cert.Kernel7Ideal.Value.final m c]
  funext i
  obtain ⟨h0, h1, h2, h3, h4, h5⟩ := h
  rw [eq_ix3 i, Cert.Reference7Ideal.Value.res_eq]
  refine (Cert.Reference7Ideal.Value.streamV_at m' c (i 0) (i 1) (i 2)).trans ?_
  rw [h0, h1, h2, h3, h4, h5]
  rfl

end Cert.Tail
-- ==== Proof.Layer2Blocks.lean ====
module
public import proofs.«01_k».proof.Proof.Gen.Kernel8Ideal.Value
public import proofs.«01_k».proof.Proof.TailMath
public import Idealize.ShloMosaic.Lib.Pointwise
public import Idealize.ShloMosaic.Lib.Pipeline.ValueKit
public import Idealize.ShloMosaic.Lib.Claim
public import Idealize.ShloMosaic.Lib.WordCmp
@[expose] public section
/-! The end of layer 2: where each window's block lies in its array, and what the body's expressions are at an index. -/
set_option maxRecDepth 16384
noncomputable section
open Idealize.ShloMosaic Idealize.ShloMosaic.TcCoe Idealize.SL.Sem
open Idealize.ShloMosaic.Pipeline (Dat)
namespace Cert.Kernel8Ideal.Value
open Cert.Kernel8Ideal Cert.Kernel8Ideal.Gen Cert.Tail

/-! ## The body's expressions -/

theorem pay1_at (u : Vec Ideal S1040x1024 .bf16) (w1 : Vec Ideal S1x1024x1024 .bf16) (acc : Vec Ideal S1040x1024 .f32)
    (w2 : Vec Ideal S1x1024x1024 .bf16) (r : Fin 1040) (d : Fin 1024) :
    k0_pay1 u w1 acc w2 (ix2 r d)
      = acc (ix2 r d) + ∑ k : Fin 1024, act (fun e => u (ix2 r e)) (fun e => w1 (ix3 0 e k)) * w2 (ix3 0 k d) := by
  pointwise! [k0_pay1, act]

/-- The body's test of a row's position, block `n`, row `k`. -/
theorem word_at (n k : ℕ) (hn : n < 8) (hk : k < 1040) :
    IntOp.cmpi .sge (IntOp.addi (Scalar.muli (BitVec.ofNat 32 n) 1040#32) (BitVec.ofNat 32 k)) 112#32
      = if 112 ≤ n * 1040 + k then 1#1 else 0#1 :=
  WordCmp.cmpi_sge_mul_add_ofNat n 1040 k 112 (by omega) (by omega)

/-- What the body selects by that test. -/
theorem select_at (n k : ℕ) (hn : n < 8) (hk : k < 1040) (x : EReal) :
    Scalar.select (IntOp.cmpi .sge (IntOp.addi (Scalar.muli (BitVec.ofNat 32 n) 1040#32) (BitVec.ofNat 32 k)) 112#32) x 0
      = keep (n * 1040 + k) x := by
  rw [word_at n k hn hk, keep]
  split <;> rfl

theorem pay2_at (i : grid0.Coords) (hs acc : Vec Ideal S1040x1024 .f32) (r : Fin 1040) (d : Fin 1024) :
    k0_pay2 i hs acc (ix3 0 r d) = hs (ix2 r d) + keep (i 1 * 1040 + (r : ℕ)) (acc (ix2 r d)) := by
  pointwise [k0_pay2]
  rw [select_at _ _ (i 1).isLt r.isLt]

/-! ## The blocks -/

variable (m : (ℓ : Loc nD τ sig) → Buf (Elt Ideal) ℓ)

theorem idx : ∀ t : Fin cfg0.N, win0_0.index t = ![t.val / 32, t.val / 4 % 8, 0]
    ∧ win0_1.index t = ![0, 0, 0]
    ∧ win0_2.index t = ![t.val / 32, t.val / 4 % 8, 0]
    ∧ win0_3.index t = ![0, 0]
    ∧ win0_4.index t = ![2, 0, t.val % 4]
    ∧ win0_5.index t = ![2, t.val % 4, 0]
    ∧ win0_7.index t = ![t.val / 32, t.val / 4 % 8, 0]
    ∧ (grid0.coords t 1 : ℕ) = t.val / 4 % 8 :=
  (by decide +kernel : ∀ t : Fin grid0.N, _)

theorem blk0 (c : Dev nD) (t : Fin cfg0.N) (b : Fin 2) (l : Fin 8320) (r : Fin 1040) (k : Fin 1024) (hb : (b : ℕ) = t.val / 32)
    (hl : (l : ℕ) = t.val / 4 % 8 * 1040 + r) :
    iblk m c 0 t (ix3 0 r k) = m ((c : Thread nD τ).loc main_arg0) (ix3 b l k) := by
  blk_point [iblk, idx t]
theorem blk2 (c : Dev nD) (t : Fin cfg0.N) (b : Fin 2) (l : Fin 8320) (r : Fin 1040) (k : Fin 1024) (hb : (b : ℕ) = t.val / 32)
    (hl : (l : ℕ) = t.val / 4 % 8 * 1040 + r) :
    iblk m c 2 t (ix3 0 r k) = m ((c : Thread nD τ).loc main_arg1) (ix3 b l k) := by
  blk_point [iblk, idx t]
theorem blk1 (c : Dev nD) (t : Fin cfg0.N) (r k : Fin 1024) :
    iblk m c 1 t (ix3 0 r k) = m ((c : Thread nD τ).loc main_arg3) (ix3 0 r k) := by
  blk_point [iblk, idx t]
theorem blk3 (c : Dev nD) (t : Fin cfg0.N) (k : Fin 1024) :
    iblk m c 3 t (ix2 0 k) = m ((c : Thread nD τ).loc main_arg2) (ix2 2 k) := by
  blk_point [iblk, idx t]
theorem blk4 (c : Dev nD) (t : Fin cfg0.N) (s : Fin 4) (hs : (s : ℕ) = t.val % 4) (e k : Fin 1024) :
    iblk m c 4 t (ix3 0 e k) = m ((c : Thread nD τ).loc main_arg4) (ix3 2 e (unit s k)) := by
  have hj : ((unit s k : Fin 4096) : ℕ) = t.val % 4 * 1024 + k := by rw [← hs]; rfl
  blk_point [iblk, idx t]
theorem blk5 (c : Dev nD) (t : Fin cfg0.N) (s : Fin 4) (hs : (s : ℕ) = t.val % 4) (k d : Fin 1024) :
    iblk m c 5 t (ix3 0 k d) = m ((c : Thread nD τ).loc main_arg5) (ix3 2 (unit s k) d) := by
  have hj : ((unit s k : Fin 4096) : ℕ) = t.val % 4 * 1024 + k := by rw [← hs]; rfl
  blk_point [iblk, idx t]

/-! ## The rows of the arguments -/

/-- Row `l` of sequence `b` of the mixer's output. -/
abbrev yRow (c : Dev nD) (b : Fin 2) (l : Fin 8320) : Row := fun k => m ((c : Thread nD τ).loc main_arg0) (ix3 b l k)
/-- Row `l` of sequence `b` of the residual stream. -/
abbrev hRow (c : Dev nD) (b : Fin 2) (l : Fin 8320) : Row := fun k => m ((c : Thread nD τ).loc main_arg1) (ix3 b l k)
/-- The output projection of the layer. -/
abbrev wOut (c : Dev nD) : Fin 1024 → Row := fun k d => m ((c : Thread nD τ).loc main_arg3) (ix3 0 k d)
/-- The norm weights of the feed-forward block. -/
abbrev nW (c : Dev nD) : Row := fun k => m ((c : Thread nD τ).loc main_arg2) (ix2 2 k)
/-- The first feed-forward weights. -/
abbrev w1M (c : Dev nD) : Fin 1024 → Fin 4096 → EReal := fun e j => m ((c : Thread nD τ).loc main_arg4) (ix3 2 e j)
/-- The second feed-forward weights. -/
abbrev w2M (c : Dev nD) : Fin 4096 → Row := fun j d => m ((c : Thread nD τ).loc main_arg5) (ix3 2 j d)
/-- The row after the mixer's residual. -/
abbrev mixRow (c : Dev nD) (b : Fin 2) (l : Fin 8320) : Row := mix l (hRow m c b l) (yRow m c b l) (wOut m c)
/-- That row, normed. -/
abbrev uRow (c : Dev nD) (b : Fin 2) (l : Fin 8320) : Row := rms (mixRow m c b l) (nW m c)

end Cert.Kernel8Ideal.Value
-- ==== Proof.Layer2Points.lean ====
module
public import proofs.«01_k».proof.Proof.Layer2Blocks
public import Idealize.ShloMosaic.Lib.Pipeline.ReadBack
@[expose] public section
/-! The end of layer 2: what the scratch buffers and the output block hold after each grid point. -/
set_option maxRecDepth 16384
noncomputable section
open Idealize.ShloMosaic Idealize.ShloMosaic.TcCoe Idealize.SL.Sem
open Idealize.ShloMosaic.Pipeline (Dat)
namespace Cert.Kernel8Ideal.Value
open Cert.Kernel8Ideal Cert.Kernel8Ideal.Gen Cert.Tail
variable (m : (ℓ : Loc nD τ sig) → Buf (Elt Ideal) ℓ)

/-- Row `q` of the residual block plus its projection, as the body computes it from its blocks. -/
def mixBlk (c : Dev nD) (t : Fin cfg0.N) (q : Fin 1040) : Row := fun d =>
  (show EReal from iblk m c 2 t (ix3 0 q d))
    + Scalar.select (IntOp.cmpi .sge (IntOp.addi (Scalar.muli (BitVec.ofNat 32 (grid0.coords t 1 : ℕ)) 1040#32) (BitVec.ofNat 32 (q : ℕ))) 112#32)
        (∑ k : Fin 1024, (show EReal from iblk m c 0 t (ix3 0 q k)) * (show EReal from iblk m c 1 t (ix3 0 k d))) (0 : EReal)

/-- The norm weights' block. -/
def nBlk (c : Dev nD) (t : Fin cfg0.N) : Row := fun d => iblk m c 3 t (ix2 0 d)

/-- That row, read from the arrays. -/
theorem mixBlk_eq (c : Dev nD) (t : Fin cfg0.N) (b : Fin 2) (l : Fin 8320) (q : Fin 1040)
    (hb : (b : ℕ) = t.val / 32) (hl : (l : ℕ) = t.val / 4 % 8 * 1040 + q) : mixBlk m c t q = mixRow m c b l := by
  funext d
  rw [mixRow, mix, mixBlk, select_at _ _ (grid0.coords t 1).isLt q.isLt, (idx t).2.2.2.2.2.2.2, ← hl]
  simp only [blk0 m c t b l q _ hb hl, blk1, blk2 m c t b l q _ hb hl]

theorem nBlk_eq (c : Dev nD) (t : Fin cfg0.N) : nBlk m c t = nW m c := funext fun d => blk3 m c t d

/-- At a first point the residual scratch holds the rows after the mixer. -/
theorem hs_first (c : Dev nD) (t : Fin cfg0.N) (g0 : t.val % 4 = 0) (g1 : ¬t.val % 4 = 3) (r : Fin 1040) (d : Fin 1024) :
    (outsAt0 m c t.val t.isLt).2.2.1 (ix2 r d) = mixBlk m c t r d := by
  rw [outsAt0_A m c t g0 g1]; frame_out
  canon_tiles x h
  all_goals
    idx_vars x
    obtain rfl : x1 = d := (Fin.ext h1).symm
    open_payloads
    pointwise
    refine Eq.trans (b := mixBlk m c t ⟨_, _⟩ x1) rfl (congrArg (fun q => mixBlk m c t q x1) (Fin.ext h0.symm))

/-- There the normed scratch holds those rows, normed. -/
theorem u_first (c : Dev nD) (t : Fin cfg0.N) (g0 : t.val % 4 = 0) (g1 : ¬t.val % 4 = 3) (r : Fin 1040) (d : Fin 1024) :
    (outsAt0 m c t.val t.isLt).2.1 (ix2 r d) = rms (mixBlk m c t r) (nBlk m c t) d := by
  rw [outsAt0_A m c t g0 g1]; frame_out
  canon_tiles x h
  all_goals
    idx_vars x
    obtain rfl : x1 = d := (Fin.ext h1).symm
    open_payloads
    pointwise
    refine Eq.trans (b := rms (mixBlk m c t ⟨_, _⟩) (nBlk m c t) x1) rfl (congrArg (fun q => rms (mixBlk m c t q) (nBlk m c t) x1) (Fin.ext h0.symm))

/-- There the accumulator is the first group's part, from the normed scratch. -/
theorem acc_first (c : Dev nD) (t : Fin cfg0.N) (h0 : t.val % 4 = 0) (h1 : ¬t.val % 4 = 3) :
    (outsAt0 m c t.val t.isLt).2.2.2
      = k0_pay1 (outsAt0 m c t.val t.isLt).2.1 (iblk m c 4 t) (k0_pay21 (F := Ideal)) (iblk m c 5 t) := by
  rw [outsAt0_A m c t h0 h1]; frame_out
  rw [View.readCov_eq_canon']
  refine congrArg (fun u => k0_pay1 u (iblk m c 4 t) (k0_pay21 (F := Ideal)) (iblk m c 5 t)) (funext fun j => congrArg _ ?_)
  funext a
  fin_cases a
  · exact Fin.ext (by show 0 + 1 * (j 0 : ℕ) = _; rw [zero_add, one_mul]; rfl)
  · exact Fin.ext (by show 0 + 1 * (j 1 : ℕ) = _; rw [zero_add, one_mul]; rfl)

/-- Later points of a block keep the normed scratch. -/
theorem u_mid (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  by_cases h1 : t.val % 4 = 3
  · rw [outsAt0_C m c t h0 h1]; rfl
  · rw [outsAt0_B m c t h0 h1]; rfl

/-- Later points of a block keep the residual scratch. -/
theorem hs_mid (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1 := by
  by_cases h1 : t.val % 4 = 3
  · rw [outsAt0_C m c t h0 h1]; rfl
  · rw [outsAt0_B m c t h0 h1]; rfl

/-- Later points of a block add their group to the accumulator. -/
theorem acc_mid (c : Dev nD) (t : Fin cfg0.N) (h0 : ¬t.val % 4 = 0) :
    (outsAt0 m c t.val t.isLt).2.2.2
      = k0_pay1 (outsAt0 m c t.val t.isLt).2.1 (iblk m c 4 t)
          (outsAt0 m c (t.val - 1) (Nat.lt_of_le_of_lt (Nat.sub_le _ _) t.isLt)).2.2.2 (iblk m c 5 t) := by
  rw [u_mid m c t h0]
  by_cases h1 : t.val % 4 = 3
  · rw [outsAt0_C m c t h0 h1]; frame_out
    simp only [read_unread_whole]
  · rw [outsAt0_B m c t h0 h1]; frame_out
    simp only [read_unread_whole]

/-- A block's last point writes out the residual plus the kept feed-forward rows. -/
theorem out_last (c : Dev nD) (t : Fin cfg0.N) (h1 : t.val % 4 = 3) :
    (outsAt0 m c t.val t.isLt).1
      = k0_pay2 (grid0.coords t) (outsAt0 m c t.val t.isLt).2.2.1 (outsAt0 m c t.val t.isLt).2.2.2 := by
  have h0 : ¬t.val % 4 = 0 := by omega
  rw [hs_mid m c t h0, acc_mid m c t h0, u_mid m c t h0, outsAt0_C m c t h0 h1]; frame_out
  simp only [read_unread_whole]

/-- At each point the group's part is the group's share of the feed-forward block. -/
theorem pay1_row (c : Dev nD) (t : Fin cfg0.N) (s : Fin 4) (hs : (s : ℕ) = t.val % 4) (u : Vec Ideal S1040x1024 .bf16)
    (acc : Vec Ideal S1040x1024 .f32) (r : Fin 1040) (d : Fin 1024) :
    k0_pay1 u (iblk m c 4 t) acc (iblk m c 5 t) (ix2 r d)
      = acc (ix2 r d) + group (fun e => u (ix2 r e)) (w1M m c) (w2M m c) s d := by
  rw [pay1_at, group]
  simp only [blk4 m c t s hs, blk5 m c t s hs]

theorem pay21_at (j : S1040x1024.Idx) : k0_pay21 (F := Ideal) j = 0 := by pointwise [k0_pay21]

/-- What the output block holds after a block's last point. -/
theorem out_at (c : Dev nD) (t : Fin cfg0.N) (h1 : t.val % 4 = 3) (b : Fin 2) (l : Fin 8320) (r : Fin 1040) (d : Fin 1024)
    (hb : (b : ℕ) = t.val / 32) (hl : (l : ℕ) = t.val / 4 % 8 * 1040 + r) :
    (outsAt0 m c t.val t.isLt).1 (ix3 0 r d)
      = tail l (hRow m c b l) (yRow m c b l) (wOut m c) (nW m c) (w1M m c) (w2M m c) d := by
  have hN : t.val < 64 := lt_of_lt_of_eq t.isLt N_0
  obtain ⟨n, hn⟩ := t
  simp only at h1 hb hl hN ⊢
  have hn0 : n - 1 - 1 - 1 < cfg0.N := by omega
  have g0 : (n - 1 - 1 - 1) % 4 = 0 := by omega
  have U0 : ∀ e, (outsAt0 m c (n - 1 - 1 - 1) hn0).2.1 (ix2 r e) = uRow m c b l e := fun e => by
    rw [u_first m c ⟨n - 1 - 1 - 1, hn0⟩ g0 (by simp only; omega) r e, nBlk_eq, mixBlk_eq m c _ b l r (by simp only; omega) (by simp only; omega)]
  have H0 : ∀ e, (outsAt0 m c (n - 1 - 1 - 1) hn0).2.2.1 (ix2 r e) = mixRow m c b l e := fun e => by
    rw [hs_first m c ⟨n - 1 - 1 - 1, hn0⟩ g0 (by simp only; omega) r e, mixBlk_eq m c _ b l r (by simp only; omega) (by simp only; omega)]
  have A0 := acc_first m c ⟨n - 1 - 1 - 1, hn0⟩ g0 (by simp only; omega)
  have u1 := u_mid m c ⟨n - 1 - 1, by omega⟩ (by simp only; omega)
  have u2 := u_mid m c ⟨n - 1, by omega⟩ (by simp only; omega)
  have u3 := u_mid m c ⟨n, hn⟩ (by simp only; omega)
  have s1 := hs_mid m c ⟨n - 1 - 1, by omega⟩ (by simp only; omega)
  have s2 := hs_mid m c ⟨n - 1, by omega⟩ (by simp only; omega)
  have s3 := hs_mid m c ⟨n, hn⟩ (by simp only; omega)
  have a1 := acc_mid m c ⟨n - 1 - 1, by omega⟩ (by simp only; omega)
  have a2 := acc_mid m c ⟨n - 1, by omega⟩ (by simp only; omega)
  have a3 := acc_mid m c ⟨n, hn⟩ (by simp only; omega)
  have O := out_last m c ⟨n, hn⟩ h1
  simp only at A0 u1 u2 u3 s1 s2 s3 a1 a2 a3 O
  have ACC : ∀ e, (outsAt0 m c n hn).2.2.2 (ix2 r e) = ffn (uRow m c b l) (w1M m c) (w2M m c) e := fun e => by
    rw [a3, pay1_row m c ⟨n, hn⟩ 3 (by simp only; omega), a2, pay1_row m c ⟨n - 1, by omega⟩ 2 (by simp only; omega), a1,
      pay1_row m c ⟨n - 1 - 1, by omega⟩ 1 (by simp only; omega), A0, pay1_row m c ⟨n - 1 - 1 - 1, hn0⟩ 0 (by simp only; omega),
      u3, u2, u1, pay21_at]
    simp only [U0]
    exact groups _ _ _ _
  rw [O, pay2_at]
  simp only [ACC, s3, s2, s1, H0]
  rw [tail, (idx ⟨n, hn⟩).2.2.2.2.2.2.2]
  simp only [← hl]

/-- What the result array holds after the run. -/
def OUT (c : Dev nD) : FVec Ideal S2x8320x1024 .f32 := fun i =>
  tail (i 1 : ℕ) (hRow m c (i 0) (i 1)) (yRow m c (i 0) (i 1)) (wOut m c) (nW m c) (w1M m c) (w2M m c) (i 2)

theorem final (c : Dev nD) : (dats m 0 c).arrAt 7 cfg0.N = OUT m c := by
  refine (dats m 0 c).arrAt_eq_of_covers 7 _ (by decide +kernel) fun t hf y => ?_
  have h1 := (flush0_7 t).mp hf
  have hN : t.val < 64 := lt_of_lt_of_eq t.isLt N_0
  blk_simp
  rw [after0_7]
  idx_vars y
  obtain rfl : y0 = 0 := Subsingleton.elim _ _
  have hy1 := y1.isLt
  refine (out_at m c t h1 ⟨t.val / 32, by omega⟩ ⟨t.val / 4 % 8 * 1040 + y1, by omega⟩ y1 y2 rfl rfl).trans ?_
  show OUT m c (ix3 (⟨t.val / 32, by omega⟩ : Fin 2) (⟨t.val / 4 % 8 * 1040 + y1, by omega⟩ : Fin 8320) y2) = _
  blk_ext [idx t]

end Cert.Kernel8Ideal.Value
-- ==== Proof.Layer2Ref.lean ====
module
public import proofs.«01_k».proof.Proof.Gen.Reference8Ideal.Run
public import proofs.«01_k».proof.Proof.TailMath
public import Idealize.ShloMosaic.Lib.Pointwise
public import Idealize.ShloMosaic.Lib.Claim
public import Idealize.ShloMosaic.Lib.WordCmp
@[expose] public section
/-! The end of layer 2 as the reference computes it: its whole-array stages, each read at one row. -/
set_option maxRecDepth 16384
noncomputable section
open Idealize.ShloMosaic Idealize.ShloMosaic.TcCoe Idealize.SL.Sem
namespace Cert.Reference8Ideal.Value
open Cert.Reference8Ideal Cert.Reference8Ideal.Gen Cert.Tail

/-- One at the rows after the front padding, zero at the padded rows. -/
def keepV : FVec Ideal S1x8320x1 .f32 :=
  uitofp .f32 (broadcastInDim S1x8320x1 ![1] bcast_S8320_S1x8320x1_1 (cmpi .sge (iotaInDim S8320 32 0) (broadcastInDim S8320 ![] bcast_S_S8320 (constantI S_ 32 112#32))))

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

/-- The mixer's residual. -/
def mixV (Y : FVec Ideal S2x8320x1024 .bf16) (H : FVec Ideal S2x8320x1024 .f32) (WO : FVec Ideal S1x1024x1024 .f32) : FVec Ideal S2x8320x1024 .f32 :=
  addf H (mulf (broadcastInDim S2x8320x1024 ![0, 1, 2] bcast_S1x8320x1_S2x8320x1024_0_1_2 keepV) (Host.dotGeneral dot_S2x8320x1024_S1024x1024_S2x8320x1024_2_0_01_1_n_n none (extf .f32 Y bitsLt_bf16_f32) (shapeCast _ WO shapeCasts_S1x1024x1024_S1024x1024)))

/-- The hidden units before their activation. -/
def hidV (U : FVec Ideal S2x8320x1024 .f32) (W1 : FVec Ideal S4x1024x4096 .f32) : FVec Ideal S2x8320x4096 .f32 :=
  maximumf (Host.dotGeneral dot_S2x8320x1024_S1024x4096_S2x8320x4096_2_0_01_1_n_n none U (shapeCast _ (extractStridedSlice S1x1024x4096 ![2, 0, 0] W1 slices_S4x1024x4096_S1x1024x4096_2_0_0) shapeCasts_S1x1024x4096_S1024x4096)) (broadcastInDim S2x8320x4096 ![] bcast_S_S2x8320x4096 (constant S_ .f32 0x00000000#32))

/-- The feed-forward residual. -/
def tailV (X : FVec Ideal S2x8320x1024 .f32) (A : FVec Ideal S2x8320x4096 .f32) (W2 : FVec Ideal S4x4096x1024 .f32) : FVec Ideal S2x8320x1024 .f32 :=
  addf X (mulf (broadcastInDim S2x8320x1024 ![0, 1, 2] bcast_S1x8320x1_S2x8320x1024_0_1_2 keepV) (Host.dotGeneral dot_S2x8320x4096_S4096x1024_S2x8320x1024_2_0_01_1_n_n none (mulf A A) (shapeCast _ (extractStridedSlice S1x4096x1024 ![2, 0, 0] W2 slices_S4x4096x1024_S1x4096x1024_2_0_0) shapeCasts_S1x4096x1024_S4096x1024)))

theorem keepV_mul (l : Fin 8320) (x : EReal) : keepV (ix3 0 l 0) * x = keep l x := by
  have hl := l.isLt
  pointwise [keepV]
  rw [WordCmp.cmpi_sge_ofNat (by omega) (by omega)]
  by_cases h : 112 ≤ (l : ℕ)
  · rw [keep, if_pos h, decide_eq_true h]
    have : (FloatOps.uitofp FTy.f32 (BitVec.ofBool true) : Ideal .f32) = (1 : EReal) := by
      simp [FloatOps.uitofp]
    rw [this, one_mul]
  · rw [keep, if_neg h, decide_eq_false h]
    have : (FloatOps.uitofp FTy.f32 (BitVec.ofBool false) : Ideal .f32) = (0 : EReal) := by
      simp [FloatOps.uitofp]
    rw [this, zero_mul]

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

theorem mixV_at (Y : FVec Ideal S2x8320x1024 .bf16) (H : FVec Ideal S2x8320x1024 .f32) (WO : FVec Ideal S1x1024x1024 .f32) (b : Fin 2) (l : Fin 8320)
    (d : Fin 1024) :
    mixV Y H WO (ix3 b l d) = mix l (fun e => H (ix3 b l e)) (fun e => Y (ix3 b l e)) (fun e d => WO (ix3 0 e d)) d := by
  rw [mix, ← keepV_mul]
  pointwise! [mixV]

theorem hidV_at (U : FVec Ideal S2x8320x1024 .f32) (W1 : FVec Ideal S4x1024x4096 .f32) (b : Fin 2) (l : Fin 8320) (j : Fin 4096) :
    hidV U W1 (ix3 b l j) = max (∑ e : Fin 1024, U (ix3 b l e) * W1 (ix3 2 e j)) 0 := by
  pointwise! [hidV]

theorem tailV_at (X : FVec Ideal S2x8320x1024 .f32) (A : FVec Ideal S2x8320x4096 .f32) (W2 : FVec Ideal S4x4096x1024 .f32) (b : Fin 2) (l : Fin 8320)
    (d : Fin 1024) :
    tailV X A W2 (ix3 b l d) = X (ix3 b l d) + keep l (∑ j : Fin 4096, A (ix3 b l j) * A (ix3 b l j) * W2 (ix3 2 j d)) := by
  rw [← keepV_mul]
  pointwise! [tailV]

variable (m : (ℓ : Loc nD τ sig) → Buf (Elt Ideal) ℓ)

/-- The reference's stream after the layer. -/
def streamV (c : Dev nD) : FVec Ideal S2x8320x1024 .f32 :=
  let X := mixV (m ((c.tc : Thread nD τ).loc main_arg0)) (m ((c.tc : Thread nD τ).loc main_arg1)) (m ((c.tc : Thread nD τ).loc main_arg3))
  tailV X (hidV (rmsV X (shapeCast _ (extractStridedSlice S1x1024 ![2, 0] (m ((c.tc : Thread nD τ).loc main_arg2)) slices_S4x1024_S1x1024_2_0) shapeCasts_S1x1024_S1024)) (m ((c.tc : Thread nD τ).loc main_arg4))) (m ((c.tc : Thread nD τ).loc main_arg5))

theorem res_eq (c : Dev nD) : res_out0 m c = streamV m c := rfl

theorem streamV_at (c : Dev nD) (b : Fin 2) (l : Fin 8320) (d : Fin 1024) :
    streamV m c (ix3 b l d)
      = tail l (fun k => m ((c.tc : Thread nD τ).loc main_arg1) (ix3 b l k)) (fun k => m ((c.tc : Thread nD τ).loc main_arg0) (ix3 b l k))
          (fun k d => m ((c.tc : Thread nD τ).loc main_arg3) (ix3 0 k d)) (fun k => m ((c.tc : Thread nD τ).loc main_arg2) (ix2 2 k))
          (fun e j => m ((c.tc : Thread nD τ).loc main_arg4) (ix3 2 e j)) (fun j d => m ((c.tc : Thread nD τ).loc main_arg5) (ix3 2 j d)) d := by
  rw [streamV, tailV_at, tail, ffn]
  simp only [hidV_at, rmsV_at, mixV_at, act]
  pointwise!

end Cert.Reference8Ideal.Value
-- ==== Proof.Layer2Eq.lean ====
module
public import proofs.«01_k».proof.Proof.Layer2Points
public import proofs.«01_k».proof.Proof.Layer2Ref
@[expose] public section
/-! The end of layer 2: the kernel's array is the reference's. -/
set_option maxRecDepth 16384
noncomputable section
open Idealize.ShloMosaic Idealize.ShloMosaic.TcCoe Idealize.SL.Sem
namespace Cert.Tail

/-- On memories that agree on the arguments, what the reference returns is what the kernel's run leaves. -/
theorem layer2_eq (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ)
    (c : Dev Cert.Kernel8Ideal.nD)
    (h : m' (c.tc.loc Cert.Reference8Ideal.main_arg0) = m (c.tc.loc Cert.Kernel8Ideal.main_arg0)
      ∧ m' (c.tc.loc Cert.Reference8Ideal.main_arg1) = m (c.tc.loc Cert.Kernel8Ideal.main_arg1)
      ∧ m' (c.tc.loc Cert.Reference8Ideal.main_arg2) = m (c.tc.loc Cert.Kernel8Ideal.main_arg2)
      ∧ m' (c.tc.loc Cert.Reference8Ideal.main_arg3) = m (c.tc.loc Cert.Kernel8Ideal.main_arg3)
      ∧ m' (c.tc.loc Cert.Reference8Ideal.main_arg4) = m (c.tc.loc Cert.Kernel8Ideal.main_arg4)
      ∧ m' (c.tc.loc Cert.Reference8Ideal.main_arg5) = m (c.tc.loc Cert.Kernel8Ideal.main_arg5)) :
    Cert.Reference8Ideal.Value.res_out0 m' c = (Cert.Kernel8Ideal.Gen.dats m 0 c).arrAt 7 Cert.Kernel8Ideal.cfg0.N := by
  rw [Cert.Kernel8Ideal.Value.final m c]
  funext i
  obtain ⟨h0, h1, h2, h3, h4, h5⟩ := h
  rw [eq_ix3 i, Cert.Reference8Ideal.Value.res_eq]
  refine (Cert.Reference8Ideal.Value.streamV_at m' c (i 0) (i 1) (i 2)).trans ?_
  rw [h0, h1, h2, h3, h4, h5]
  rfl

end Cert.Tail
-- ==== Proof.LastProj.lean ====
module
public import proofs.«01_k».proof.Proof.Gen.Kernel9Ideal.Value
public import proofs.«01_k».proof.Proof.ProjMath
public import Idealize.ShloMosaic.Lib.Pointwise
public import Idealize.ShloMosaic.Lib.Pipeline.ValueKit
public import Idealize.ShloMosaic.Lib.Pipeline.ReadBack
public import Idealize.ShloMosaic.Lib.Claim
@[expose] public section
/-! The gated DeltaNet's input projection in the last layer: the blocks, the normed rows the scratch holds, and the result array. -/
set_option maxRecDepth 16384
noncomputable section
open Idealize.ShloMosaic Idealize.ShloMosaic.TcCoe Idealize.SL.Sem
open Idealize.ShloMosaic.Pipeline (Dat)
namespace Cert.Kernel9Ideal.Value
open Cert.Kernel9Ideal Cert.Kernel9Ideal.Gen Cert.Tail

theorem pay1_at (h : Vec Ideal S1x2080x1024 .f32) (w : Vec Ideal S1x1024 .f32) (r : Fin 2080) (d : Fin 1024) :
    k0_pay1 h w (ix2 r d) = rms (fun e => h (ix3 0 r e)) (fun e => w (ix2 0 e)) d := by
  pointwise! [k0_pay1, rms]

theorem pay3_at (u : Vec Ideal S2080x1024 .bf16) (w : Vec Ideal S1x1024x1408 .bf16) (r : Fin 2080) (k : Fin 1408) :
    k0_pay3 u w (ix3 0 r k) = ∑ e : Fin 1024, u (ix2 r e) * w (ix3 0 e k) := by
  pointwise! [k0_pay3, k0_pay2]

theorem pay4_at (u : Vec Ideal S2080x1024 .bf16) (w : Vec Ideal S1x1024x1408 .bf16) (r : Fin 2080) (k : Fin 128) :
    k0_pay4 u w (ix3 0 r k) = ∑ e : Fin 1024, u (ix2 r e) * w (ix3 0 e (⟨1280 + k, by omega⟩ : Fin 1408)) := by
  pointwise! [k0_pay4, k0_pay2]

variable (m : (ℓ : Loc nD τ sig) → Buf (Elt Ideal) ℓ)

theorem idx : ∀ t : Fin cfg0.N, win0_0.index t = ![t.val / 12, t.val / 3 % 4, 0]
    ∧ win0_1.index t = ![0, 0]
    ∧ win0_2.index t = ![1, 0, t.val % 3]
    ∧ win0_3.index t = ![t.val / 12, t.val / 3 % 4, t.val % 3]
    ∧ win0_4.index t = ![t.val / 12, t.val / 3 % 4, 0] :=
  (by decide +kernel : ∀ t : Fin grid0.N, _)

theorem blk0 (c : Dev nD) (t : Fin cfg0.N) (b : Fin 2) (l : Fin 8320) (r : Fin 2080) (k : Fin 1024) (hb : (b : ℕ) = t.val / 12)
    (hl : (l : ℕ) = t.val / 3 % 4 * 2080 + r) :
    iblk m c 0 t (ix3 0 r k) = m ((c : Thread nD τ).loc main_arg0) (ix3 b l k) := by
  blk_point [iblk, idx t]
theorem blk1 (c : Dev nD) (t : Fin cfg0.N) (k : Fin 1024) :
    iblk m c 1 t (ix2 0 k) = m ((c : Thread nD τ).loc main_arg1) (ix2 3 k) := by
  blk_point [iblk, idx t]
/-- Entry `e`, `j` of the padded weights. -/
def wPad (c : Dev nD) (e : Fin 1024) (j : Fin 4224) : EReal :=
  if h : (j : ℕ) < 4112 then m ((c : Thread nD τ).loc main_arg2) (ix3 1 e (⟨j, h⟩ : Fin 4112)) else 0

theorem weights_eq (c : Dev nD) : V m c main_v2
    = truncf .bf16 (concatenate S2x1024x4224 2 [⟨S2x1024x4112, m ((c : Thread nD τ).loc main_arg2)⟩,
        ⟨S2x1024x112, broadcastInDim S2x1024x112 ![] bcast_S_S2x1024x112 (constant (F := Ideal) S_ .f32 0x00000000#32)⟩] concatenates_S2x1024x4112_S2x1024x112_S2x1024x4224_d2) bitsLt_bf16_f32 := by
  simp only [V, hostOps0, List.flatten_cons, List.flatten_nil, List.append_nil, List.cons_append, List.nil_append]
  after_results <;> rfl

theorem blk2 (c : Dev nD) (t : Fin cfg0.N) (e : Fin 1024) (k : Fin 1408) (j : Fin 4224) (hj : (j : ℕ) = t.val % 3 * 1408 + k) :
    iblk m c 2 t (ix3 0 e k) = wPad m c e j := by
  have q : iblk m c 2 t (ix3 0 e k) = V m c main_v2 (ix3 1 e j) := by
    blk_simp [iblk]
    refine congrArg _ (funext fun a => Fin.ext ?_)
    fin_cases a
    · show win0_2.index t 0 * 1 + 1 * 0 = 1
      rw [(idx t).2.2.1]; rfl
    · show win0_2.index t 1 * 1024 + 1 * (e : ℕ) = (e : ℕ)
      rw [(idx t).2.2.1, one_mul]; simp
    · show win0_2.index t 2 * 1408 + 1 * (k : ℕ) = (j : ℕ)
      rw [(idx t).2.2.1, hj, one_mul]; rfl
  rw [q, weights_eq, wPad]
  pointwise

/-- Row `l` of sequence `b` of the residual stream. -/
abbrev hRow (c : Dev nD) (b : Fin 2) (l : Fin 8320) : Row := fun k => m ((c : Thread nD τ).loc main_arg0) (ix3 b l k)
/-- The norm's weights. -/
abbrev nW (c : Dev nD) : Row := fun k => m ((c : Thread nD τ).loc main_arg1) (ix2 3 k)

/-- The body's normed row, read from its blocks. -/
theorem pay1_row (c : Dev nD) (t : Fin cfg0.N) (b : Fin 2) (l : Fin 8320) (r : Fin 2080) (d : Fin 1024) (hb : (b : ℕ) = t.val / 12)
    (hl : (l : ℕ) = t.val / 3 % 4 * 2080 + r) :
    k0_pay1 (iblk m c 0 t) (iblk m c 1 t) (ix2 r d) = rms (hRow m c b l) (nW m c) d := by
  rw [pay1_at]
  simp only [blk0 m c t b l r _ hb hl, blk1]

/-- A block's first point norms its rows into the scratch. -/
theorem u_first (c : Dev nD) (t : Fin cfg0.N) (h0 : t.val % 3 = 0) :
    (outsAt0 m c t.val t.isLt).2.2 = k0_pay1 (iblk m c 0 t) (iblk m c 1 t) := by
  rw [outsAt0_A m c t h0 (by omega)]; frame_out

/-- Its later points keep the scratch. -/
theorem u_mid (c : Dev nD) (t : Fin cfg0.N) (h0 : ¬t.val % 3 = 0) :
    (outsAt0 m c t.val t.isLt).2.2 = (outsAt0 m c (t.val - 1) (Nat.lt_of_le_of_lt (Nat.sub_le _ _) t.isLt)).2.2 := by
  by_cases h1 : t.val % 3 = 2
  · rw [outsAt0_C m c t h0 h1]; rfl
  · rw [outsAt0_B m c t h0 h1]; rfl

/-- Every point multiplies what the scratch holds by its columns of the weights. -/
theorem out_eq (c : Dev nD) (t : Fin cfg0.N) :
    (outsAt0 m c t.val t.isLt).1 = k0_pay3 (outsAt0 m c t.val t.isLt).2.2 (iblk m c 2 t) := by
  by_cases h0 : t.val % 3 = 0
  · rw [u_first m c t h0, outsAt0_A m c t h0 (by omega)]; frame_out
  · rw [u_mid m c t h0]
    by_cases h1 : t.val % 3 = 2
    · rw [outsAt0_C m c t h0 h1]; frame_out
      simp only [read_unread_whole]
    · rw [outsAt0_B m c t h0 h1]; frame_out
      simp only [read_unread_whole]

/-- A block's last point also writes the last columns of its product. -/
theorem small_eq (c : Dev nD) (t : Fin cfg0.N) (h1 : t.val % 3 = 2) :
    (outsAt0 m c t.val t.isLt).2.1 = k0_pay4 (outsAt0 m c t.val t.isLt).2.2 (iblk m c 2 t) := by
  have h0 : ¬t.val % 3 = 0 := by omega
  rw [u_mid m c t h0, outsAt0_C m c t h0 h1]; frame_out
  simp only [read_unread_whole]

/-- At every point the scratch holds the block's rows, normed. -/
theorem u_at (c : Dev nD) (r : Fin 2080) (d : Fin 1024) (b : Fin 2) (l : Fin 8320) :
    ∀ (n : ℕ) (hn : n < cfg0.N), (b : ℕ) = n / 12 → (l : ℕ) = n / 3 % 4 * 2080 + r →
      (outsAt0 m c n hn).2.2 (ix2 r d) = rms (hRow m c b l) (nW m c) d := by
  intro n
  induction n with
  | zero =>
    intro hn hb hl
    rw [u_first m c ⟨0, hn⟩ (by simp only), pay1_row m c ⟨0, hn⟩ b l r d hb hl]
  | succ k ih =>
    intro hn hb hl
    by_cases h0 : (k + 1) % 3 = 0
    · rw [u_first m c ⟨k + 1, hn⟩ h0, pay1_row m c ⟨k + 1, hn⟩ b l r d hb hl]
    · have e := u_mid m c ⟨k + 1, hn⟩ h0
      simp only [Nat.add_sub_cancel] at e
      rw [e]
      exact ih (by omega) (by omega) (by omega)

/-- What the first result holds after the run. -/
def OUT (c : Dev nD) : FVec Ideal S2x8320x4224 .bf16 := fun i =>
  proj (hRow m c (i 0) (i 1)) (nW m c) (fun e => wPad m c e (i 2))

/-- What the second result holds after the run: the last columns once more. -/
def SMALL (c : Dev nD) : FVec Ideal S2x8320x128 .f32 := fun i =>
  proj (hRow m c (i 0) (i 1)) (nW m c) (fun e => wPad m c e ⟨4096 + (i 2 : ℕ), by have : (i 2 : ℕ) < 128 := (i 2).isLt; omega⟩)

theorem final (c : Dev nD) : (dats m 0 c).arrAt 3 cfg0.N = OUT m c := by
  refine (dats m 0 c).arrAt_eq_of_covers 3 _ (by decide +kernel) fun t hf y => ?_
  have hN : t.val < 24 := lt_of_lt_of_eq t.isLt N_0
  blk_simp
  rw [after0_3]
  idx_vars y
  obtain rfl : y0 = 0 := Subsingleton.elim _ _
  have hy1 := y1.isLt
  have hy2 := y2.isLt
  rw [out_eq, pay3_at]
  simp only [u_at m c y1 _ ⟨t.val / 12, by omega⟩ ⟨t.val / 3 % 4 * 2080 + y1, by omega⟩ t.val t.isLt rfl rfl,
    blk2 m c t _ y2 ⟨t.val % 3 * 1408 + y2, by omega⟩ rfl]
  show OUT m c (ix3 (⟨t.val / 12, by omega⟩ : Fin 2) (⟨t.val / 3 % 4 * 2080 + y1, by omega⟩ : Fin 8320) (⟨t.val % 3 * 1408 + y2, by omega⟩ : Fin 4224)) = _
  blk_ext [idx t]

theorem final_small (c : Dev nD) : (dats m 0 c).arrAt 4 cfg0.N = SMALL m c := by
  refine (dats m 0 c).arrAt_eq_of_covers 4 _ (by decide +kernel) fun t hf y => ?_
  have hN : t.val < 24 := lt_of_lt_of_eq t.isLt N_0
  have h1 := (flush0_4 t).mp hf
  blk_simp
  rw [after0_4]
  idx_vars y
  obtain rfl : y0 = 0 := Subsingleton.elim _ _
  have hy1 := y1.isLt
  have hy2 := y2.isLt
  rw [small_eq m c t h1, pay4_at]
  simp only [u_at m c y1 _ ⟨t.val / 12, by omega⟩ ⟨t.val / 3 % 4 * 2080 + y1, by omega⟩ t.val t.isLt rfl rfl,
    blk2 m c t _ ⟨1280 + y2, by omega⟩ ⟨4096 + y2, by omega⟩ (by simp only; omega)]
  show SMALL m c (ix3 (⟨t.val / 12, by omega⟩ : Fin 2) (⟨t.val / 3 % 4 * 2080 + y1, by omega⟩ : Fin 8320) y2) = _
  blk_ext [idx t]

end Cert.Kernel9Ideal.Value
-- ==== Proof.LastProjEq.lean ====
module
public import proofs.«01_k».proof.Proof.Gen.Reference9Ideal.Run
public import proofs.«01_k».proof.Proof.LastProj
public import Idealize.ShloMosaic.Lib.Pointwise
public import Idealize.ShloMosaic.Lib.Claim
@[expose] public section
/-! The last layer's input projection as the reference computes it, and that the kernel's arrays are the same. -/
set_option maxRecDepth 16384
noncomputable section
open Idealize.ShloMosaic Idealize.ShloMosaic.TcCoe Idealize.SL.Sem
namespace Cert.Reference9Ideal.Value
open Cert.Reference9Ideal Cert.Reference9Ideal.Gen Cert.Tail

/-- The norm of every row. -/
def rmsV (X : FVec Ideal S2x8320x1024 .f32) (W : FVec Ideal S1024 .f32) : FVec Ideal S2x8320x1024 .f32 :=
  mulf (mulf X (broadcastInDim S2x8320x1024 ![0, 1, 2] bcast_S2x8320x1_S2x8320x1024_0_1_2 (Host.rsqrt (addf (Host.divf (broadcastInDim S2x8320x1 ![0, 1] bcast_S2x8320_S2x8320x1_0_1 (Host.reduceAdd (mulf X X) (constant S_ .f32 0x00000000#32) reducesTo_S2x8320x1024_S2x8320_d2 h_S_)) (broadcastInDim S2x8320x1 ![] bcast_S_S2x8320x1 (constant S_ .f32 0x44800000#32))) (broadcastInDim S2x8320x1 ![] bcast_S_S2x8320x1 (constant S_ .f32 0x358637BD#32)))))) (broadcastInDim S2x8320x1024 ![0, 1, 2] bcast_S1x1x1024_S2x8320x1024_0_1_2 (broadcastInDim S1x1x1024 ![2] bcast_S1024_S1x1x1024_2 W))

theorem rmsV_at (X : FVec Ideal S2x8320x1024 .f32) (W : FVec Ideal S1024 .f32) (b : Fin 2) (l : Fin 8320) (d : Fin 1024) :
    rmsV X W (ix3 b l d) = rms (fun e => X (ix3 b l e)) (fun e => W (ix1 e)) d := by
  pointwise! [rmsV, rms]

/-- The layer's norm weights. -/
def nwV (W : FVec Ideal S4x1024 .f32) : FVec Ideal S1024 .f32 :=
  shapeCast _ (extractStridedSlice S1x1024 ![3, 0] W slices_S4x1024_S1x1024_3_0) shapeCasts_S1x1024_S1024

theorem nwV_at (W : FVec Ideal S4x1024 .f32) (d : Fin 1024) : nwV W (ix1 d) = W (ix2 3 d) := by
  pointwise [nwV]

/-- The product of the normed rows and the weights. -/
def dotV (X : FVec Ideal S2x8320x1024 .f32) (NW : FVec Ideal S4x1024 .f32) (W : FVec Ideal S2x1024x4112 .f32) : FVec Ideal S2x8320x4112 .f32 :=
  Host.dotGeneral dot_S2x8320x1024_S1024x4112_S2x8320x4112_2_0_01_1_n_n none (rmsV X (nwV NW)) (shapeCast _ (extractStridedSlice S1x1024x4112 ![1, 0, 0] W slices_S2x1024x4112_S1x1024x4112_1_0_0) shapeCasts_S1x1024x4112_S1024x4112)

theorem dotV_at (X : FVec Ideal S2x8320x1024 .f32) (NW : FVec Ideal S4x1024 .f32) (W : FVec Ideal S2x1024x4112 .f32) (b : Fin 2) (l : Fin 8320) (j : Fin 4112) :
    dotV X NW W (ix3 b l j) = proj (fun e => X (ix3 b l e)) (fun e => NW (ix2 3 e)) (fun e => W (ix3 1 e j)) := by
  have e : dotV X NW W (ix3 b l j) = ∑ e : Fin 1024, rmsV X (nwV NW) (ix3 b l e) * W (ix3 1 e j) := by
    pointwise! [dotV]
  rw [e, proj]
  simp only [rmsV_at, nwV_at]

/-- The product behind which 112 columns of zeros stand. -/
def padV (P : FVec Ideal S2x8320x4112 .f32) : FVec Ideal S2x8320x4224 .f32 :=
  pad S2x8320x4224 ![0, 0, 0] ![0, 0, 112] ![0, 0, 0] P (sitofp .f32 (constantI S_ 32 0#32)) pads_S2x8320x4112_S2x8320x4224_000_000_01120 h_S_

theorem padV_at (P : FVec Ideal S2x8320x4112 .f32) (b : Fin 2) (l : Fin 8320) (j : Fin 4224) :
    padV P (ix3 b l j) = if h : (j : ℕ) < 4112 then P (ix3 b l (⟨j, h⟩ : Fin 4112)) else 0 := by
  pointwise [padV]
  by_cases q : (j : ℕ) < 4112
  · simp only [dif_pos q]
  · simp only [dif_neg q, FloatOps.sitofp]
    simp

/-- The last columns. -/
def lastV (P : FVec Ideal S2x8320x4224 .f32) : FVec Ideal S2x8320x128 .f32 :=
  extractStridedSlice S2x8320x128 ![0, 0, 4096] P slices_S2x8320x4224_S2x8320x128_0_0_4096

theorem lastV_at (P : FVec Ideal S2x8320x4224 .f32) (b : Fin 2) (l : Fin 8320) (j : Fin 128) :
    lastV P (ix3 b l j) = P (ix3 b l (⟨4096 + j, by omega⟩ : Fin 4224)) := by
  pointwise [lastV]

/-- A zero column's product is zero. -/
theorem proj_pad (h nw : Row) (W : Fin 1024 → Fin 4112 → EReal) (j : Fin 4224) :
    (if q : (j : ℕ) < 4112 then proj h nw (fun e => W e ⟨j, q⟩) else 0)
      = proj h nw (fun e => if q : (j : ℕ) < 4112 then W e ⟨j, q⟩ else 0) := by
  by_cases q : (j : ℕ) < 4112
  · simp only [dif_pos q]
  · simp only [dif_neg q, proj, mul_zero, Finset.sum_const_zero]

variable (m : (ℓ : Loc Cert.Kernel9Ideal.nD Cert.Kernel9Ideal.τ Cert.Kernel9Ideal.sig) → Buf (Elt Ideal) ℓ)
    (m' : (ℓ : Loc nD τ sig) → Buf (Elt Ideal) ℓ) (c : Dev nD)
    (h : m' (c.tc.loc main_arg0) = m (c.tc.loc Cert.Kernel9Ideal.main_arg0)
      ∧ m' (c.tc.loc main_arg1) = m (c.tc.loc Cert.Kernel9Ideal.main_arg1)
      ∧ m' (c.tc.loc main_arg2) = m (c.tc.loc Cert.Kernel9Ideal.main_arg2))
include h

theorem pad_at (b : Fin 2) (l : Fin 8320) (j : Fin 4224) :
    padV (dotV (m' (c.tc.loc main_arg0)) (m' (c.tc.loc main_arg1)) (m' (c.tc.loc main_arg2))) (ix3 b l j)
      = proj (Cert.Kernel9Ideal.Value.hRow m c b l) (Cert.Kernel9Ideal.Value.nW m c) (fun e => Cert.Kernel9Ideal.Value.wPad m c e j) := by
  obtain ⟨h0, h1, h2⟩ := h
  rw [padV_at]
  simp only [dotV_at, h0, h1, h2]
  exact proj_pad (fun e => m (c.tc.loc Cert.Kernel9Ideal.main_arg0) (ix3 b l e)) (fun e => m (c.tc.loc Cert.Kernel9Ideal.main_arg1) (ix2 3 e)) (fun e k => m (c.tc.loc Cert.Kernel9Ideal.main_arg2) (ix3 1 e k)) j

/-- What the reference returns first is what the kernel's run leaves. -/
theorem res_eq : truncf .bf16 (padV (dotV (m' (c.tc.loc main_arg0)) (m' (c.tc.loc main_arg1)) (m' (c.tc.loc main_arg2)))) bitsLt_bf16_f32
    = (Cert.Kernel9Ideal.Gen.dats m 0 c).arrAt 3 Cert.Kernel9Ideal.cfg0.N := by
  rw [Cert.Kernel9Ideal.Value.final m c]
  funext i
  rw [eq_ix3 i]
  exact pad_at m m' c h (i 0) (i 1) (i 2)

/-- And second. -/
theorem small_eq : lastV (padV (dotV (m' (c.tc.loc main_arg0)) (m' (c.tc.loc main_arg1)) (m' (c.tc.loc main_arg2))))
    = (Cert.Kernel9Ideal.Gen.dats m 0 c).arrAt 4 Cert.Kernel9Ideal.cfg0.N := by
  rw [Cert.Kernel9Ideal.Value.final_small m c]
  funext i
  rw [eq_ix3 i]
  exact (lastV_at _ (i 0) (i 1) (i 2)).trans (pad_at m m' c h (i 0) (i 1) _)

end Cert.Reference9Ideal.Value
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import Idealize.ShloMosaic.Adequacy
public import proofs.«01_k».proof.Proof.TailEq
public import proofs.«01_k».proof.Proof.InnerEq
public import proofs.«01_k».proof.Proof.DnProjEq
public import proofs.«01_k».proof.Proof.DaProjEq
public import proofs.«01_k».proof.Proof.LruProjEq
public import proofs.«01_k».proof.Proof.BiasEq
public import proofs.«01_k».proof.Proof.FirstProjEq
public import proofs.«01_k».proof.Proof.Layer1Eq
public import proofs.«01_k».proof.Proof.Layer2Eq
public import proofs.«01_k».proof.Proof.LastProjEq
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  exact (h c).1.trans (Cert.Tail.last_eq m m' c (hagree c))

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  exact (h c).1.trans (Cert.Tail.inner_eq m m' c (hagree c))

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨?_, ?_, (h c).2.2⟩) (Cert.Reference3Ideal.Value.run (F := Ideal) m' ρ')
  · exact (h c).1.trans (Cert.Reference3Ideal.Value.res_eq m m' c (hagree c))
  · exact (h c).2.1.trans (Cert.Reference3Ideal.Value.small_eq m m' c (hagree c))

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  exact (h c).1.trans (Cert.Reference4Ideal.Value.res_eq m m' c (hagree c))

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  exact (h c).1.trans (Cert.Reference5Ideal.Value.res_eq m m' c (hagree c))

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  exact (h c).1.trans (Cert.Reference6Ideal.Value.res_eq m m' c (hagree c))

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  exact (h c).1.trans (Cert.Tail.layer1_eq m m' c (hagree c))

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  exact (h c).1.trans (Cert.Tail.layer2_eq m m' c (hagree c))

theorem quiescent_Reference9Ideal : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨_, _, Cert.Kernel9Ideal.Value.run_blocks (F := Ideal) m ρ, ?_⟩
  refine (θ_run Cert.Reference9Ideal.defs _ _).mono (fun _ h c => ⟨?_, ?_, (h c).2.2⟩) (Cert.Reference9Ideal.Value.run (F := Ideal) m' ρ')
  · exact (h c).1.trans (Cert.Reference9Ideal.Value.res_eq m m' c (hagree c))
  · exact (h c).2.1.trans (Cert.Reference9Ideal.Value.small_eq m m' c (hagree c))

theorem quiescent_Reference10Ideal : quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨_, _, Cert.Kernel10Ideal.Value.run_blocks (F := Ideal) m ρ, ?_⟩
  refine (θ_run Cert.Reference10Ideal.defs _ _).mono (fun _ h c => ⟨?_, ?_, (h c).2.2⟩) (Cert.Reference10Ideal.Value.run (F := Ideal) m' ρ')
  · exact (h c).1.trans (Cert.Reference10Ideal.Value.res_eq m m' c (hagree c))
  · exact (h c).2.1.trans (Cert.Reference10Ideal.Value.small_eq m m' c (hagree c))

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal⟩

end Cert.Proof

end
